-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_sqrt_dk" .f32 0x3D3504F3#32 (((Real.sqrt 512)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x32x512 : Shape := ⟨3, ![128, 32, 512]⟩
abbrev S128x16x512 : Shape := ⟨3, ![128, 16, 512]⟩
abbrev S512x512 : Shape := ⟨2, ![512, 512]⟩
abbrev S512x1536 : Shape := ⟨2, ![512, 1536]⟩
abbrev S1536 : Shape := ⟨1, ![1536]⟩
abbrev S_ : Shape := ⟨0, ![]⟩

class Facts : Prop where
  bcast_S_S128x32x512 : S_.BroadcastsInDim S128x32x512 (![] : Fin 0 → Fin S128x32x512.rank)
  reducesTo_S128x32x512_S_d0_1_2 : S128x32x512.ReducesTo [0, 1, 2] S_
  h_S_ : 0 < S_.numel
  bcast_S_S128x16x512 : S_.BroadcastsInDim S128x16x512 (![] : Fin 0 → Fin S128x16x512.rank)
  reducesTo_S128x16x512_S_d0_1_2 : S128x16x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S128x32x512 .f32) (main_arg1 : FVec F S128x16x512 .f32) (main_arg2 : FVec F S512x512 .f32) (main_arg3 : FVec F S512x512 .f32) (main_arg4 : FVec F S512x512 .f32) (main_arg5 : FVec F S512x1536 .f32) (main_arg6 : FVec F S512x1536 .f32) (main_arg7 : FVec F S1536 .f32) (main_arg8 : FVec F S1536 .f32) : IVec S_ 1 :=
  let main_v0 : FVec F S128x32x512 .f32 := Host.absf main_arg0
  let main_cst : FVec F S_ .f32 := constant S_ .f32 0x7F800000#32
  let main_v1 : FVec F S128x32x512 .f32 := broadcastInDim S128x32x512 ![] bcast_S_S128x32x512 main_cst
  let main_v2 : IVec S128x32x512 1 := cmpf .olt main_v0 main_v1
  let main_c : IVec S_ 1 := constantI S_ 1 1#1
  let main_v3 : IVec S_ 1 := (fun x v => Host.reduce IntOp.andi x v reducesTo_S128x32x512_S_d0_1_2 h_S_) main_v2 main_c
  let main_v4 : FVec F S128x16x512 .f32 := Host.absf main_arg1
  let main_cst_0 : FVec F S_ .f32 := constant S_ .f32 0x7F800000#32
  let main_v5 : FVec F S128x16x512 .f32 := broadcastInDim S128x16x512 ![] bcast_S_S128x16x512 main_cst_0
  let main_v6 : IVec S128x16x512 1 := cmpf .olt main_v4 main_v5
  let main_c_1 : IVec S_ 1 := constantI S_ 1 1#1
  let main_v7 : IVec S_ 1 := (fun x v => Host.reduce IntOp.andi x v reducesTo_S128x16x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S128x32x512 : Shape := ⟨3, ![128, 32, 512]⟩
abbrev S128x16x512 : Shape := ⟨3, ![128, 16, 512]⟩
abbrev S512x512 : Shape := ⟨2, ![512, 512]⟩
abbrev S512x1536 : Shape := ⟨2, ![512, 1536]⟩
abbrev S1536 : Shape := ⟨1, ![1536]⟩
abbrev S1x1536 : Shape := ⟨2, ![1, 1536]⟩
abbrev S32x32x512 : Shape := ⟨3, ![32, 32, 512]⟩
abbrev S32x16x512 : Shape := ⟨3, ![32, 16, 512]⟩
abbrev S_ : Shape := ⟨0, ![]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S16x16 : Shape := ⟨2, ![16, 16]⟩
abbrev S32x16 : Shape := ⟨2, ![32, 16]⟩
abbrev S32x32 : Shape := ⟨2, ![32, 32]⟩
abbrev S32x64 : Shape := ⟨2, ![32, 64]⟩
abbrev S32x128 : Shape := ⟨2, ![32, 128]⟩
abbrev S32x256 : Shape := ⟨2, ![32, 256]⟩
abbrev S32x16x1 : Shape := ⟨3, ![32, 16, 1]⟩
abbrev S32x16x16 : Shape := ⟨3, ![32, 16, 16]⟩
abbrev S256x16 : Shape := ⟨2, ![256, 16]⟩
abbrev S512x32 : Shape := ⟨2, ![512, 32]⟩
abbrev S512x16 : Shape := ⟨2, ![512, 16]⟩
abbrev S512 : Shape := ⟨1, ![512]⟩
abbrev S512x1 : Shape := ⟨2, ![512, 1]⟩
abbrev S512x256 : Shape := ⟨2, ![512, 256]⟩
abbrev S256x128 : Shape := ⟨2, ![256, 128]⟩
abbrev S128x512 : Shape := ⟨2, ![128, 512]⟩
abbrev S256x1536 : Shape := ⟨2, ![256, 1536]⟩

abbrev nBuf : Space → Nat
  | .hbm => 12
  | .vmem => 13
  | .smem => 0
  | _ => 0

abbrev bufTy : (tb : Table) → Fin (tcTables nBuf tb) → BufTy
  | .hbm, ⟨0, _⟩ => ⟨S128x32x512, .f32⟩
  | .hbm, ⟨1, _⟩ => ⟨S128x16x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x1536, .f32⟩
  | .hbm, ⟨6, _⟩ => ⟨S512x1536, .f32⟩
  | .hbm, ⟨7, _⟩ => ⟨S1536, .f32⟩
  | .hbm, ⟨8, _⟩ => ⟨S1536, .f32⟩
  | .hbm, ⟨9, _⟩ => ⟨S1x1536, .f32⟩
  | .hbm, ⟨10, _⟩ => ⟨S1x1536, .f32⟩
  | .hbm, ⟨11, _⟩ => ⟨S128x16x512, .f32⟩
  | .local _ .vmem, ⟨0, _⟩ => ⟨S32x32x512, .f32⟩
  | .local _ .vmem, ⟨1, _⟩ => ⟨S32x32x512, .f32⟩
  | .local _ .vmem, ⟨2, _⟩ => ⟨S32x16x512, .f32⟩
  | .local _ .vmem, ⟨3, _⟩ => ⟨S32x16x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x1536, .f32⟩
  | .local _ .vmem, ⟨8, _⟩ => ⟨S1x1536, .f32⟩
  | .local _ .vmem, ⟨9, _⟩ => ⟨S32x16x512, .f32⟩
  | .local _ .vmem, ⟨10, _⟩ => ⟨S32x16x512, .f32⟩
  | .local _ .vmem, ⟨11, _⟩ => ⟨S512x1536, .f32⟩
  | .local _ .vmem, ⟨12, _⟩ => ⟨S512x1536, .f32⟩
  | _, _ => ⟨S128x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_sqrt_dk" => some (((Real.sqrt 512)⁻¹ : ℝ) : EReal)
  | "mask" => some ⊥
  | _ => none
-- ==== ReferenceIdeal.lean ====
abbrev S128x32x512 : Shape := ⟨3, ![128, 32, 512]⟩
abbrev S128x16x512 : Shape := ⟨3, ![128, 16, 512]⟩
abbrev S512x512 : Shape := ⟨2, ![512, 512]⟩
abbrev S512x1536 : Shape := ⟨2, ![512, 1536]⟩
abbrev S1536 : Shape := ⟨1, ![1536]⟩
abbrev S_ : Shape := ⟨0, ![]⟩
abbrev S128x1x512 : Shape := ⟨3, ![128, 1, 512]⟩
abbrev S128x33x512 : Shape := ⟨3, ![128, 33, 512]⟩
abbrev S128x16x33 : Shape := ⟨3, ![128, 16, 33]⟩
abbrev S128x16 : Shape := ⟨2, ![128, 16]⟩
abbrev S128x16x1 : Shape := ⟨3, ![128, 16, 1]⟩
abbrev S128x8 : Shape := ⟨2, ![128, 8]⟩
abbrev S128 : Shape := ⟨1, ![128]⟩
abbrev S128x1 : Shape := ⟨2, ![128, 1]⟩
abbrev S128x8x1 : Shape := ⟨3, ![128, 8, 1]⟩
abbrev S128x8x2 : Shape := ⟨3, ![128, 8, 2]⟩
abbrev S128x16x1536 : Shape := ⟨3, ![128, 16, 1536]⟩
abbrev S1x1x1536 : Shape := ⟨3, ![1, 1, 1536]⟩

abbrev nBuf : Space → Nat
  | .hbm => 118
  | .vmem => 0
  | .smem => 0
  | _ => 0

abbrev bufTy : (tb : Table) → Fin (tcTables nBuf tb) → BufTy
  | .hbm, ⟨0, _⟩ => ⟨S128x32x512, .f32⟩
  | .hbm, ⟨1, _⟩ => ⟨S128x16x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x1536, .f32⟩
  | .hbm, ⟨6, _⟩ => ⟨S512x1536, .f32⟩
  | .hbm, ⟨7, _⟩ => ⟨S1536, .f32⟩
  | .hbm, ⟨8, _⟩ => ⟨S1536, .f32⟩
  | .hbm, ⟨9, _⟩ => ⟨S_, .f32⟩
  | .hbm, ⟨10, _⟩ => ⟨S128x1x512, .f32⟩
  | .hbm, ⟨11, _⟩ => ⟨S128x33x512, .f32⟩
  | .hbm, ⟨12, _⟩ => ⟨S128x16x512, .f32⟩
  | .hbm, ⟨13, _⟩ => ⟨S128x33x512, .f32⟩
  | .hbm, ⟨14, _⟩ => ⟨S128x33x512, .f32⟩
  | .hbm, ⟨15, _⟩ => ⟨S128x16x33, .f32⟩
  | .hbm, ⟨16, _⟩ => ⟨S_, .f32⟩
  | .hbm, ⟨17, _⟩ => ⟨S_, .f32⟩
  | .hbm, ⟨18, _⟩ => ⟨S128x16x33, .f32⟩
  | .hbm, ⟨19, _⟩ => ⟨S128x16x33, .f32⟩
  | .hbm, ⟨20, _⟩ => ⟨S_, .f32⟩
  | .hbm, ⟨21, _⟩ => ⟨S128x16, .f32⟩
  | .hbm, ⟨22, _⟩ => ⟨S_, .f32⟩
  | .hbm, ⟨23, _⟩ => ⟨S128x16, .f32⟩
  | .hbm, ⟨24, _⟩ => ⟨S128x16, .f32⟩
  | .hbm, ⟨25, _⟩ => ⟨S128x16x1, .f32⟩
  | .hbm, ⟨26, _⟩ => ⟨S128x16x33, .f32⟩
  | .hbm, ⟨27, _⟩ => ⟨S128x16x33, .f32⟩
  | .hbm, ⟨28, _⟩ => ⟨S128x16x33, .f32⟩
  | .hbm, ⟨29, _⟩ => ⟨S_, .f32⟩
  | .hbm, ⟨30, _⟩ => ⟨S128x16, .f32⟩
  | .hbm, ⟨31, _⟩ => ⟨S128x16x1, .f32⟩
  | .hbm, ⟨32, _⟩ => ⟨S128x16x33, .f32⟩
  | .hbm, ⟨33, _⟩ => ⟨S128x16x33, .f32⟩
  | .hbm, ⟨34, _⟩ => ⟨S128x16x1, .f32⟩
  | .hbm, ⟨35, _⟩ => ⟨S128x16, .f32⟩
  | .hbm, ⟨36, _⟩ => ⟨S128x16, .f32⟩
  | .hbm, ⟨37, _⟩ => ⟨S128x8, .f32⟩
  | .hbm, ⟨38, _⟩ => ⟨S128x8, .i32⟩
  | .hbm, ⟨39, _⟩ => ⟨S_, .f32⟩
  | .hbm, ⟨40, _⟩ => ⟨S128x16, .f32⟩
  | .hbm, ⟨41, _⟩ => ⟨S128, .i32⟩
  | .hbm, ⟨42, _⟩ => ⟨S128x1, .i32⟩
  | .hbm, ⟨43, _⟩ => ⟨S_, .i32⟩
  | .hbm, ⟨44, _⟩ => ⟨S128x1, .i32⟩
  | .hbm, ⟨45, _⟩ => ⟨S128x1, .i1⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x1, .i32⟩
  | .hbm, ⟨50, _⟩ => ⟨S_, .i32⟩
  | .hbm, ⟨51, _⟩ => ⟨S128x8, .i32⟩
  | .hbm, ⟨52, _⟩ => ⟨S128x8, .i1⟩
  | .hbm, ⟨53, _⟩ => ⟨S_, .i32⟩
  | .hbm, ⟨54, _⟩ => ⟨S128x8, .i32⟩
  | .hbm, ⟨55, _⟩ => ⟨S128x8, .i32⟩
  | .hbm, ⟨56, _⟩ => ⟨S128x8, .i32⟩
  | .hbm, ⟨57, _⟩ => ⟨S128x8, .i32⟩
  | .hbm, ⟨58, _⟩ => ⟨S128x8x1, .i32⟩
  | .hbm, ⟨59, _⟩ => ⟨S128x8x1, .i32⟩
  | .hbm, ⟨60, _⟩ => ⟨S128x8x2, .i32⟩
  | .hbm, ⟨61, _⟩ => ⟨S_, .f32⟩
  | .hbm, ⟨62, _⟩ => ⟨S128x8, .f32⟩
  | .hbm, ⟨63, _⟩ => ⟨S128x16, .f32⟩
  | .hbm, ⟨64, _⟩ => ⟨S128x16x512, .f32⟩
  | .hbm, ⟨65, _⟩ => ⟨S128x16x1, .f32⟩
  | .hbm, ⟨66, _⟩ => ⟨S128x16x512, .f32⟩
  | .hbm, ⟨67, _⟩ => ⟨S128x16x512, .f32⟩
  | .hbm, ⟨68, _⟩ => ⟨S128x16x1536, .f32⟩
  | .hbm, ⟨69, _⟩ => ⟨S1x1x1536, .f32⟩
  | .hbm, ⟨70, _⟩ => ⟨S128x16x1536, .f32⟩
  | .hbm, ⟨71, _⟩ => ⟨S128x16x1536, .f32⟩
  | .hbm, ⟨72, _⟩ => ⟨S128x16x1536, .f32⟩
  | .hbm, ⟨73, _⟩ => ⟨S1x1x1536, .f32⟩
  | .hbm, ⟨74, _⟩ => ⟨S128x16x1536, .f32⟩
  | .hbm, ⟨75, _⟩ => ⟨S128x16x1536, .f32⟩
  | .hbm, ⟨76, _⟩ => ⟨S128x16x512, .f32⟩
  | .hbm, ⟨77, _⟩ => ⟨S128x16x512, .f32⟩
  | .hbm, ⟨78, _⟩ => ⟨S128x16x512, .f32⟩
  | .hbm, ⟨79, _⟩ => ⟨S128x16x512, .f32⟩
  | .hbm, ⟨80, _⟩ => ⟨S128x16x512, .f32⟩
  | .hbm, ⟨81, _⟩ => ⟨S128x16x512, .f32⟩
  | .hbm, ⟨82, _⟩ => ⟨S128x16x512, .f32⟩
  | .hbm, ⟨83, _⟩ => ⟨S128x16x512, .f32⟩
  | .hbm, ⟨84, _⟩ => ⟨S128x16x512, .f32⟩
  | .hbm, ⟨85, _⟩ => ⟨S_, .f32⟩
  | .hbm, ⟨86, _⟩ => ⟨S128x16x512, .f32⟩
  | .hbm, ⟨87, _⟩ => ⟨S128x16x512, .f32⟩
  | .hbm, ⟨88, _⟩ => ⟨S_, .f32⟩
  | .hbm, ⟨89, _⟩ => ⟨S128x16x512, .f32⟩
  | .hbm, ⟨90, _⟩ => ⟨S128x16x512, .f32⟩
  | .hbm, ⟨91, _⟩ => ⟨S128x16x512, .f32⟩
  | .hbm, ⟨92, _⟩ => ⟨S128x16x512, .f32⟩
  | .hbm, ⟨93, _⟩ => ⟨S128x16x512, .f32⟩
  | .hbm, ⟨94, _⟩ => ⟨S_, .f32⟩
  | .hbm, ⟨95, _⟩ => ⟨S128x16x512, .f32⟩
  | .hbm, ⟨96, _⟩ => ⟨S128x16x512, .f32⟩
  | .hbm, ⟨97, _⟩ => ⟨S_, .f32⟩
  | .hbm, ⟨98, _⟩ => ⟨S128x16x512, .f32⟩
  | .hbm, ⟨99, _⟩ => ⟨S128x16x512, .f32⟩
  | .hbm, ⟨100, _⟩ => ⟨S128x16x512, .f32⟩
  | .hbm, ⟨101, _⟩ => ⟨S128x16x512, .f32⟩
  | .hbm, ⟨102, _⟩ => ⟨S128x16x512, .f32⟩
  | .hbm, ⟨103, _⟩ => ⟨S_, .f32⟩
  | .hbm, ⟨104, _⟩ => ⟨S128x16x512, .f32⟩
  | .hbm, ⟨105, _⟩ => ⟨S128x16x512, .f32⟩
  | .hbm, ⟨106, _⟩ => ⟨S128x16x512, .f32⟩
  | .hbm, ⟨107, _⟩ => ⟨S128x16x512, .f32⟩
  | .hbm, ⟨108, _⟩ => ⟨S128x16x512, .f32⟩
  | .hbm, ⟨109, _⟩ => ⟨S128x16x1, .f32⟩
  | .hbm, ⟨110, _⟩ => ⟨S128x16x512, .f32⟩
  | .hbm, ⟨111, _⟩ => ⟨S128x16x512, .f32⟩
  | .hbm, ⟨112, _⟩ => ⟨S_, .f32⟩
  | .hbm, ⟨113, _⟩ => ⟨S128x16x1, .f32⟩
  | .hbm, ⟨114, _⟩ => ⟨S128x16x1, .f32⟩
  | .hbm, ⟨115, _⟩ => ⟨S128x16x512, .f32⟩
  | .hbm, ⟨116, _⟩ => ⟨S128x16x512, .f32⟩
  | .hbm, ⟨117, _⟩ => ⟨S128x16x512, .f32⟩
  | _, _ => ⟨S128x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_values : Ref sig .tc := ⟨.hbm, 37, rfl⟩
abbrev main_indices : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]
-- ==== Proof.Rank.lean ====
module

public import Idealize.ShloMosaic.Lib.SortFacts
public import Idealize.ShloMosaic.Lib.SortPrefix
public import Idealize.ShloMosaic.Lib.Pointwise

@[expose] public section

/-! # Ranks

The rank of a position is how many positions come before it when values are ordered upward and equal values by
position. A stable upward sort puts at place `k` the position of rank `k`. -/

noncomputable section

namespace Cert.Rank

open Idealize.ShloMosaic

variable {n : ℕ}

/-- Position `j` comes before position `i`: its value is smaller, or equal and `j` is the earlier position. -/
def Before (a : Fin n → EReal) (j i : Fin n) : Prop := a j < a i ∨ (a j = a i ∧ j < i)

/-- How many positions come before `i`. -/
def rank (a : Fin n → EReal) (i : Fin n) : ℕ := by
  classical exact (Finset.univ.filter fun j => Before a j i).card

theorem before_irrefl (a : Fin n → EReal) (i : Fin n) : ¬ Before a i i := by
  simp [Before]

theorem before_trans {a : Fin n → EReal} {i j k : Fin n} (h : Before a i j) (h' : Before a j k) : Before a i k := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

theorem before_total {a : Fin n → EReal} {i j : Fin n} (h : i ≠ j) : Before a i j ∨ Before a j i := by
  rcases lt_trichotomy (a i) (a j) with h' | h' | h'
  · exact Or.inl (Or.inl h')
  · rcases lt_or_gt_of_ne h with l | l
    · exact Or.inl (Or.inr ⟨h', l⟩)
    · exact Or.inr (Or.inr ⟨h'.symm, l⟩)
  · exact Or.inr (Or.inl h')

/-- An earlier position has the smaller rank. -/
theorem rank_lt {a : Fin n → EReal} {i j : Fin n} (h : Before a i j) : rank a i < rank a j := by
  classical
  unfold rank
  refine Finset.card_lt_card (Finset.ssubset_iff_of_subset ?_ |>.mpr ⟨i, ?_, ?_⟩)
  · intro k hk
    have hk := (Finset.mem_filter.mp hk).2
    exact Finset.mem_filter.mpr ⟨Finset.mem_univ _, before_trans hk h⟩
  · exact Finset.mem_filter.mpr ⟨Finset.mem_univ _, h⟩
  · intro hk
    exact before_irrefl a i (Finset.mem_filter.mp hk).2

/-- No two positions have the same rank. -/
theorem rank_injective (a : Fin n → EReal) : Function.Injective (rank a) := by
  intro i j h
  by_contra hne
  rcases before_total (a := a) hne with h' | h'
  · exact (rank_lt h').ne h
  · exact (rank_lt h').ne h.symm

/-- Inserting and then sorting by value alone, from a list of increasing positions, is sorting by value and position. -/
theorem stableSort_eq (a : Fin n → EReal) (B C : Fin n → Fin n → Bool) (hB : ∀ j i, B j i = true ↔ a j < a i)
    (hC : ∀ j i, C j i = true ↔ Before a j i) (l : List (Fin n)) (hl : l.Pairwise (· < ·)) :
    stableSort B l = stableSort C l := by
  induction l with
  | nil => rfl
  | cons i l ih =>
    have h := List.pairwise_cons.mp hl
    unfold stableSort
    rw [ih h.2]
    refine insertBefore_congr B C i _ fun j hj => ?_
    have hj' : i < j := h.1 j ((perm_stableSort C l).mem_iff.mp hj)
    rw [Bool.eq_iff_iff, hB, hC]
    exact ⟨Or.inl, fun h => h.elim id fun h => absurd h.2 (not_lt.mpr hj'.le)⟩

/-- A stable upward sort puts at place `k` the position whose rank is `k`. -/
theorem rank_sortedFrom (a : Fin n → EReal) (B : Fin n → Fin n → Bool) (hB : ∀ j i, B j i = true ↔ a j < a i)
    (k : Fin n) : rank a (sortedFrom B k) = k := by
  classical
  let C : Fin n → Fin n → Bool := fun j i => decide (Before a j i)
  have hC : ∀ j i, C j i = true ↔ Before a j i := fun j i => decide_eq_true_iff
  have hS : sortedFrom B k = sortedFrom C k := by
    have e : sortPositions n B = sortPositions n C := stableSort_eq a B C hB hC _ (List.pairwise_lt_finRange n)
    show (sortPositions n B).get _ = (sortPositions n C).get _
    rw [List.get_of_eq e]
    rfl
  have hord : ∀ i j : Fin n, i < j → Before a (sortedFrom C i) (sortedFrom C j) := by
    intro i j hij
    have h1 : C (sortedFrom C j) (sortedFrom C i) = false := by
      refine sortedFrom_noInversion C C (fun x y h => ?_) (fun _ _ h => h) (fun x y z hxy hyz => ?_) i j hij
      · rw [Bool.eq_false_iff]
        intro h'
        exact before_irrefl a x (before_trans ((hC _ _).mp h) ((hC _ _).mp h'))
      · rw [Bool.eq_false_iff] at hxy hyz ⊢
        intro h
        by_cases e : y = x
        · subst e; exact hyz h
        · rcases before_total (a := a) e with h' | h'
          · exact hyz ((hC _ _).mpr (before_trans h' ((hC _ _).mp h)))
          · exact hxy ((hC _ _).mpr h')
    have hne : sortedFrom C i ≠ sortedFrom C j := fun e => hij.ne (sortedFrom_injective C e)
    rcases before_total (a := a) hne with h | h
    · exact h
    · rw [(hC _ _).mpr h] at h1; exact absurd h1 (by decide)
  have hiff : ∀ i j : Fin n, Before a (sortedFrom C i) (sortedFrom C j) ↔ i < j := by
    intro i j
    refine ⟨fun h => ?_, hord i j⟩
    by_contra hn
    rcases lt_or_eq_of_le (not_lt.mp hn) with h' | h'
    · exact before_irrefl a _ (before_trans h (hord j i h'))
    · subst h'; exact before_irrefl a _ h
  rw [hS]
  unfold rank
  have hset : (Finset.univ.filter fun j => Before a j (sortedFrom C k)) = (Finset.Iio k).image (sortedFrom C) := by
    ext j
    obtain ⟨i, rfl⟩ := sortedFrom_surjective C j
    simp only [Finset.mem_filter, Finset.mem_univ, true_and, Finset.mem_image, Finset.mem_Iio, hiff]
    constructor
    · intro h; exact ⟨i, h, rfl⟩
    · rintro ⟨i', h, e⟩; rwa [← sortedFrom_injective C e]
  rw [hset, Finset.card_image_of_injective _ (sortedFrom_injective C), Fin.card_Iio]

/-- A position is among the first `w` places of a stable upward sort exactly when its rank is less than `w`. -/
theorem exists_sortedFrom_iff (a : Fin n → EReal) (B : Fin n → Fin n → Bool) (hB : ∀ j i, B j i = true ↔ a j < a i)
    (i : Fin n) (w : ℕ) : (∃ k : Fin n, (k : ℕ) < w ∧ sortedFrom B k = i) ↔ rank a i < w := by
  constructor
  · rintro ⟨k, hk, rfl⟩
    rwa [rank_sortedFrom a B hB k]
  · intro h
    obtain ⟨k, rfl⟩ := sortedFrom_surjective B i
    exact ⟨k, by rwa [rank_sortedFrom a B hB k] at h, rfl⟩

end Cert.Rank
-- ==== Proof.Spec.lean ====
module

public import proofs.«01_k».proof.Proof.Rank

@[expose] public section

/-! # The mathematics of one batch element

One batch element has an input of 32 rows, a state of 16 rows, and the weights. Everything here is over the extended
reals, written out row by row. `kout` is the new state as the kernel computes it: the projection through the value
weights after the attention average, and the change of the state added to the state. -/

noncomputable section

namespace Cert.Spec

open Idealize.ShloMosaic Cert.Rank

/-- The reciprocal of the square root of the width 512. -/
def scale : EReal := (((Real.sqrt 512)⁻¹ : ℝ) : EReal)

/-- Rows times a weight matrix. -/
def proj {ι : Type} {m n : ℕ} (x : ι → Fin m → EReal) (W : Fin m → Fin n → EReal) (i : ι) (d : Fin n) : EReal :=
  ∑ c, x i c * W c d

/-- The scaled score of state row `i` against input row `s`. -/
def score (x : Fin 32 → Fin 512 → EReal) (h : Fin 16 → Fin 512 → EReal) (Wq Wk : Fin 512 → Fin 512 → EReal)
    (i : Fin 16) (s : Fin 32) : EReal :=
  (∑ d, proj h Wq i d * proj x Wk s d) * scale

/-- The largest score of a row, the null score 0 included. -/
def top (y : Fin 32 → EReal) : EReal := max (Finset.univ.fold max ⊥ y) 0

/-- The softmax denominator of a row, the null score included. -/
def den (y : Fin 32 → EReal) : EReal := (∑ s, Ideal.exp (y s - top y)) + Ideal.exp (0 - top y)

/-- The attention weight of input row `s`. -/
def wgt (y : Fin 32 → EReal) (s : Fin 32) : EReal := Ideal.div (Ideal.exp (y s - top y)) (den y)

/-- The attention weight of the null row. -/
def nul (y : Fin 32 → EReal) : EReal := Ideal.div (Ideal.exp (0 - top y)) (den y)

/-- The column of the reset gate. -/
def g0 (d : Fin 512) : Fin 1536 := ⟨d, by omega⟩

/-- The column of the update gate. -/
def g1 (d : Fin 512) : Fin 1536 := ⟨512 + d, by omega⟩

/-- The column of the candidate. -/
def g2 (d : Fin 512) : Fin 1536 := ⟨1024 + d, by omega⟩

/-- The change of the state at one element, from the gates of the input and the gates of the state. -/
def change (gx gh : Fin 1536 → EReal) (h : EReal) (d : Fin 512) : EReal :=
  (1 - Ideal.logistic (gx (g1 d) + gh (g1 d))) *
    (Ideal.tanh (gx (g2 d) + Ideal.logistic (gx (g0 d) + gh (g0 d)) * gh (g2 d)) - h)

/-- The averaged input rows of state row `i`, projected as the kernel does: average, then value weights, then gate
weights and bias. -/
def gatesX (y : Fin 32 → EReal) (x : Fin 32 → Fin 512 → EReal) (Wv : Fin 512 → Fin 512 → EReal)
    (Wx : Fin 512 → Fin 1536 → EReal) (bx : Fin 1536 → EReal) (e : Fin 1536) : EReal :=
  (∑ d, (∑ c, (∑ s, wgt y s * x s c) * Wv c d) * Wx d e) + bx e

/-- The gates of a state row. -/
def gatesH (h : Fin 512 → EReal) (Wh : Fin 512 → Fin 1536 → EReal) (bh : Fin 1536 → EReal) (e : Fin 1536) : EReal :=
  (∑ c, h c * Wh c e) + bh e

/-- The new state as the kernel computes it. -/
def kout (x : Fin 32 → Fin 512 → EReal) (h : Fin 16 → Fin 512 → EReal) (Wq Wk Wv : Fin 512 → Fin 512 → EReal)
    (Wx Wh : Fin 512 → Fin 1536 → EReal) (bx bh : Fin 1536 → EReal) (i : Fin 16) (d : Fin 512) : EReal :=
  if rank (fun j => nul (score x h Wq Wk j)) i < 8 then
    h i d + change (gatesX (score x h Wq Wk i) x Wv Wx bx) (gatesH (h i) Wh bh) (h i d) d
  else h i d

/-! ## A row of 512 scores of which one block of 32 counts -/

/-- A sum over 512 columns whose terms vanish outside one block of 32 is the sum over the block. -/
theorem sum_block (g : Fin 16) (f : Fin 32 → EReal) (F : Fin 512 → EReal)
    (hF : ∀ c : Fin 512, F c = if (c : ℕ) / 32 = g then f ⟨c % 32, Nat.mod_lt _ (by norm_num)⟩ else 0) :
    ∑ c, F c = ∑ s, f s := by
  rw [Fin.sum_univ_tiles 16 32 rfl F, Finset.sum_eq_single g]
  · refine Finset.sum_congr rfl fun s _ => ?_
    rw [hF]
    have h1 : (g * 32 + s : ℕ) / 32 = g := by omega
    have h2 : (g * 32 + s : ℕ) % 32 = s := by omega
    simp only [h1, h2, if_true, Fin.eta]
  · intro g' _ hne
    refine Finset.sum_eq_zero fun s _ => ?_
    rw [hF]
    have h1 : (g' * 32 + s : ℕ) / 32 = g' := by omega
    simp only [h1]
    exact if_neg fun e => hne (Fin.ext e)
  · simp

/-- The largest of 512 scores that are lowest outside one block of 32 is the largest of the block. -/
theorem fold_block (g : Fin 16) (f : Fin 32 → EReal) (F : Fin 512 → EReal)
    (hF : ∀ c : Fin 512, F c = if (c : ℕ) / 32 = g then f ⟨c % 32, Nat.mod_lt _ (by norm_num)⟩ else ⊥) :
    Finset.univ.fold max ⊥ F = Finset.univ.fold max ⊥ f := by
  refine le_antisymm ?_ ?_
  · rw [Finset.fold_max_le]
    refine ⟨bot_le, fun c _ => ?_⟩
    rw [hF]
    split
    · rw [Finset.le_fold_max]
      exact Or.inr ⟨_, Finset.mem_univ _, le_rfl⟩
    · exact bot_le
  · rw [Finset.fold_max_le]
    refine ⟨bot_le, fun s _ => ?_⟩
    rw [Finset.le_fold_max]
    refine Or.inr ⟨⟨g * 32 + s, by omega⟩, Finset.mem_univ _, ?_⟩
    rw [hF]
    have h1 : (g * 32 + s : ℕ) / 32 = g := by omega
    have h2 : (g * 32 + s : ℕ) % 32 = s := by omega
    simp only [h1, h2, if_true, Fin.eta, le_refl]

/-- The exponential of the lowest score, shifted, is 0. -/
theorem exp_bot_sub (m : EReal) : Ideal.exp (⊥ - m) = 0 := by
  rw [sub_eq_add_neg, EReal.bot_add, Ideal.exp_bot]

/-! ## Counting with zeros and ones -/

/-- Zeros and ones add up to the number of ones. -/
theorem sum_ind {ι : Type} (S : Finset ι) (P : ι → Prop) [DecidablePred P] :
    (∑ j ∈ S, if P j then (1 : EReal) else 0) = (((S.filter P).card : ℝ) : EReal) := by
  classical
  induction S using Finset.induction_on with
  | empty => simp
  | insert a S ha ih =>
    rw [Finset.sum_insert ha, ih, Finset.filter_insert]
    by_cases h : P a
    · rw [if_pos h, if_pos h, Finset.card_insert_of_notMem (fun h' => ha (Finset.mem_filter.mp h').1)]
      push_cast
      rw [add_comm]
    · rw [if_neg h, if_neg h, zero_add]

/-- A sum against a single one picks the term there. -/
theorem sum_pick {ι : Type} [Fintype ι] [DecidableEq ι] (R : ι) (w f : ι → EReal) (hw : ∀ r, w r = if r = R then 1 else 0) :
    ∑ r, w r * f r = f R := by
  rw [Finset.sum_eq_single R]
  · rw [hw, if_pos rfl, one_mul]
  · intro r _ h
    rw [hw, if_neg h, zero_mul]
  · intro h; exact absurd (Finset.mem_univ _) h

/-- The same, the one standing on the right. -/
theorem sum_pick' {ι : Type} [Fintype ι] [DecidableEq ι] (R : ι) (w f : ι → EReal) (hw : ∀ r, w r = if r = R then 1 else 0) :
    ∑ r, f r * w r = f R := by
  simp only [mul_comm (f _)]
  exact sum_pick R w f hw

end Cert.Spec
-- ==== Proof.Words.lean ====
module

public import Idealize.ShloMosaic.Lib.Pointwise

@[expose] public section

set_option maxRecDepth 16384

/-! # Index arithmetic on words

Rows and lanes are numbered by 32-bit words. Rounded-down quotient and remainder of a small number by 16 or 32 are
the natural quotient and remainder, and a comparison turned into a float is 0 or 1. -/

noncomputable section

namespace Cert.Words

open Idealize.ShloMosaic

/-- The quotient rounded down, as it is computed on words: the truncated quotient, one less when the signs differ and
the remainder is not 0. `q`, `s` are the truncated quotient and the sign of `x`, `t` says whether `y` is positive. -/
abbrev quot (x y q s : BitVec 32) (t : BitVec 1) : BitVec 32 :=
  Scalar.select
    (IntOp.andi
      (IntOp.cmpi .ne s (Scalar.subi (Scalar.extui t) (Scalar.extui (Scalar.cmpi .slt y 0#32))))
      (IntOp.cmpi .ne (IntOp.remsi .vector x y) 0#32))
    (IntOp.subi q 1#32) q

/-- The sign of a word: 1, 0 or −1. -/
abbrev sign (x : BitVec 32) : BitVec 32 :=
  IntOp.subi (BitVec.setWidth 32 (IntOp.cmpi .sgt x 0#32)) (BitVec.setWidth 32 (IntOp.cmpi .slt x 0#32))

/-- The divisor, 1 in place of 0. -/
abbrev nz (y : BitVec 32) : BitVec 32 := Scalar.select (Scalar.cmpi .eq y 0#32) 1#32 y

/-- The remainder with the sign of the divisor, as it is computed on words: `r` is the truncated remainder, `c` says
whether it is not 0. -/
abbrev rest (y r z : BitVec 32) (c : BitVec 1) : BitVec 32 :=
  Scalar.select (IntOp.andi (IntOp.xori (IntOp.cmpi .slt r z) (Scalar.cmpi .slt y 0#32)) c) (IntOp.addi r y) r

/-- Dividing a row number by 16. -/
theorem quot16 : ∀ r : Fin 512, quot (BitVec.ofNat 32 r) 16#32 (IntOp.divsi .vector (BitVec.ofNat 32 r) 16#32)
    (sign (BitVec.ofNat 32 r)) 1#1 = BitVec.ofNat 32 (r / 16) := by decide +kernel

/-- Dividing a column number by 32. -/
theorem quot32 : ∀ r : Fin 512, quot (BitVec.ofNat 32 r) 32#32 (IntOp.divsi .vector (BitVec.ofNat 32 r) 32#32)
    (sign (BitVec.ofNat 32 r)) 1#1 = BitVec.ofNat 32 (r / 32) := by decide +kernel

/-- The remainder of a row number by 16. -/
theorem rest16 : ∀ r : Fin 512, rest 16#32 (IntOp.remsi .vector (BitVec.ofNat 32 r) 16#32) 0#32
    (IntOp.cmpi .ne (IntOp.remsi .vector (BitVec.ofNat 32 r) 16#32) 0#32) = BitVec.ofNat 32 (r % 16) := by decide +kernel

/-- Two small numbers are equal as words exactly when they are equal. -/
theorem ofNat_inj {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

/-- Comparing two small numbers for equality. -/
theorem cmpi_eq {a b : ℕ} (ha : a < 2 ^ 31) (hb : b < 2 ^ 31) :
    IntOp.cmpi .eq (BitVec.ofNat 32 a) (BitVec.ofNat 32 b) = if a = b then 1#1 else 0#1 := by
  by_cases h : a = b
  · rw [if_pos h, h]; simp [IntOp.cmpi]
  · rw [if_neg h]
    have : BitVec.ofNat 32 a ≠ BitVec.ofNat 32 b := fun e => h ((ofNat_inj ha hb).mp e)
    show BitVec.ofBool (_ == _) = 0#1
    rw [beq_eq_false_iff_ne.mpr this]
    rfl

/-- Comparing two numbers below 16. -/
theorem cmpi_slt : ∀ a b : Fin 16, IntOp.cmpi .slt (BitVec.ofNat 32 a) (BitVec.ofNat 32 b) = if a < b then 1#1 else 0#1 := by
  decide +kernel

/-- A word as a float is its signed value. -/
theorem sitofp_eq {φ : FTy} (x : BitVec 32) : (FloatOps.sitofp φ x : Ideal φ) = ((x.toInt : ℝ) : EReal) := rfl

/-- A small number as a float. -/
theorem sitofp_ofNat {φ : FTy} {a : ℕ} (ha : a < 2 ^ 31) : (FloatOps.sitofp φ (BitVec.ofNat 32 a) : Ideal φ) = ((a : ℝ) : EReal) := by
  rw [sitofp_eq]
  have : (BitVec.ofNat 32 a).toInt = (a : ℤ) := by
    rw [BitVec.toInt_eq_toNat_of_lt] <;> simp only [BitVec.toNat_ofNat] <;> omega
  rw [this]; norm_cast

/-- A condition as a float is 1 or 0. -/
theorem sitofp_bit {φ : FTy} (P : Prop) [Decidable P] :
    (FloatOps.sitofp φ (BitVec.setWidth 32 (if P then 1#1 else 0#1)) : Ideal φ) = if P then (1 : EReal) else 0 := by
  by_cases h : P
  · rw [if_pos h, if_pos h, sitofp_eq]
    have : (BitVec.setWidth 32 1#1).toInt = 1 := by decide
    rw [this]; norm_num
  · rw [if_neg h, if_neg h, sitofp_eq]
    have : (BitVec.setWidth 32 0#1).toInt = 0 := by decide
    rw [this]; norm_num

/-- A decided condition as a bit. -/
theorem ofBool_decide (P : Prop) [Decidable P] : BitVec.ofBool (decide P) = if P then 1#1 else 0#1 := by
  by_cases h : P <;> simp [h]

/-- Choosing by a bit. -/
theorem select_bit {α : Type} (P : Prop) [Decidable P] (a b : α) :
    Scalar.select (if P then 1#1 else 0#1) a b = if P then a else b := by
  by_cases h : P <;> simp [h, Scalar.select]

/-- Whether a row number divided by 16 is `a`, as a float. -/
theorem quot16_ind {φ : FTy} (r : Fin 512) {a : ℕ} (ha : a < 512) :
    (FloatOps.sitofp φ (BitVec.setWidth 32 (IntOp.cmpi .eq
      (quot (BitVec.ofNat 32 r) 16#32 (IntOp.divsi .vector (BitVec.ofNat 32 r) 16#32) (sign (BitVec.ofNat 32 r)) 1#1)
      (BitVec.ofNat 32 a))) : Ideal φ) = if a = r / 16 then (1 : EReal) else 0 := by
  rw [quot16, cmpi_eq (by omega) (by omega), sitofp_bit]
  simp only [eq_comm]

/-- Whether the remainder of a row number by 16 is `a`, as a float. -/
theorem rest16_ind {φ : FTy} (r : Fin 512) {a : ℕ} (ha : a < 512) :
    (FloatOps.sitofp φ (BitVec.setWidth 32 (IntOp.cmpi .eq
      (rest 16#32 (IntOp.remsi .vector (BitVec.ofNat 32 r) 16#32) 0#32
        (IntOp.cmpi .ne (IntOp.remsi .vector (BitVec.ofNat 32 r) 16#32) 0#32))
      (BitVec.ofNat 32 a))) : Ideal φ) = if a = r % 16 then (1 : EReal) else 0 := by
  rw [rest16, cmpi_eq (by omega) (by omega), sitofp_bit]
  simp only [eq_comm]

/-- The same with the divisor 16 guarded against 0. -/
theorem rest16_ind_nz {φ : FTy} (r : Fin 512) {a : ℕ} (ha : a < 512) :
    (FloatOps.sitofp φ (BitVec.setWidth 32 (IntOp.cmpi .eq
      (rest (nz 16#32) (IntOp.remsi .vector (BitVec.ofNat 32 r) (nz 16#32)) 0#32
        (IntOp.cmpi .ne (IntOp.remsi .vector (BitVec.ofNat 32 r) (nz 16#32)) 0#32))
      (BitVec.ofNat 32 a))) : Ideal φ) = if a = r % 16 then (1 : EReal) else 0 := by
  have h : nz 16#32 = 16#32 := by decide
  rw [h]
  exact rest16_ind r ha

/-- One condition, or a second together with a third, as a float. -/
theorem or_and_ind {φ : FTy} (P Q S : Prop) [Decidable P] [Decidable Q] [Decidable S] :
    (FloatOps.sitofp φ (BitVec.setWidth 32 (IntOp.ori (BitVec.ofBool (decide P))
      (IntOp.andi (BitVec.ofBool (decide Q)) (if S then 1#1 else 0#1)))) : Ideal φ)
      = if P ∨ (Q ∧ S) then (1 : EReal) else 0 := by
  rw [← sitofp_bit (φ := φ)]
  congr 2
  by_cases hP : P <;> by_cases hQ : Q <;> by_cases hS : S <;> simp [hP, hQ, hS, IntOp.ori, IntOp.andi]

/-- Two numbers as reals inside the extended reals are equal exactly when they are equal. -/
theorem coe_nat_eq {a b : ℕ} : ((a : ℝ) : EReal) = ((b : ℝ) : EReal) ↔ a = b := by
  rw [EReal.coe_eq_coe_iff]; norm_cast

/-- The float constant 8. -/
theorem ofBits_eight : Ideal.ofBits .f32 0x41000000#32 = ((8 : ℝ) : EReal) := by
  simp [Ideal.ofBits, Ideal.ieee, -EReal.coe_mul]; norm_num

/-- The float constant −1. -/
theorem ofBits_neg_one : Ideal.ofBits .f32 0xBF800000#32 = ((-1 : ℝ) : EReal) := by
  simp [Ideal.ofBits, Ideal.ieee, -EReal.coe_mul, -EReal.coe_neg]; norm_num

/-- The float constant −∞. -/
theorem ofBits_neg_inf : Ideal.ofBits .f32 0xFF800000#32 = ⊥ := by
  simp [Ideal.ofBits, Ideal.ieee]

end Cert.Words
-- ==== Proof.Scores.lean ====
module

public import proofs.«01_k».proof.Proof.Gen.KernelIdeal.Frame
public import proofs.«01_k».proof.Proof.Spec
public import proofs.«01_k».proof.Proof.Words

@[expose] public section

set_option maxRecDepth 16384

/-! # The kernel's attention weights

The kernel works on 32 batch elements at a time, in two groups of 16. A group's scores are one 256 by 512 matrix; of a
row only the 32 columns of the row's own batch element count, the others are masked by the lowest value. -/

noncomputable section

namespace Cert.Scores

open Idealize.ShloMosaic Cert.KernelIdeal Cert.KernelIdeal.Gen Cert.Spec Cert.Words

/-- The input rows of batch element `b` of a block. -/
abbrev xOf (X : Vec Ideal S32x32x512 .f32) (b : Fin 32) (s : Fin 32) (c : Fin 512) : EReal := X (ix3 b s c)

/-- The state rows of batch element `b` of a block. -/
abbrev hOf (H : Vec Ideal S32x16x512 .f32) (b : Fin 32) (i : Fin 16) (c : Fin 512) : EReal := H (ix3 b i c)

/-- A weight matrix by row and column. -/
abbrev wOf {m n : ℕ} (W : Vec Ideal ⟨2, ![m, n]⟩ .f32) (c : Fin m) (d : Fin n) : EReal := W (ix2 c d)

variable (X : Vec Ideal S32x32x512 .f32) (H : Vec Ideal S32x16x512 .f32) (Wq Wk : Vec Ideal S512x512 .f32)

/-- The scores of state row `i` of batch element `b` of a block. -/
abbrev sc (b : Fin 32) (i : Fin 16) (s : Fin 32) : EReal := score (xOf X b) (hOf H b) (wOf Wq) (wOf Wk) i s

/-- The batch element of row `r` of group `g`. -/
abbrev bOf (g : Fin 2) (r : Fin 256) : Fin 32 := ⟨g * 16 + r / 16, by omega⟩

/-- The state row of row `r` of a group. -/
abbrev iOf (r : Fin 256) : Fin 16 := ⟨r % 16, by omega⟩

theorem named_inv : (Named.named (F := Ideal) (φ := .f32) κ "inv_sqrt_dk" 1026884851#32 : EReal) = scale :=
  IdealRules.named_const.ideal_named_scalar _ _ _ _ rfl

theorem named_mask : (Named.named (F := Ideal) (φ := .f32) κ "mask" 4048155338#32 : EReal) = ⊥ :=
  IdealRules.named_const.ideal_named_scalar _ _ _ _ rfl

/-- The block mask: a row's own batch element. -/
theorem mask_apply (r : Fin 256) (c : Fin 512) :
    k0_pay7 k0_pay6 (iota .tc S256x512 32 [1] iota_S256x512_d1_w32) (ix2 r c)
      = if (c : ℕ) / 32 = r / 16 then 1#1 else 0#1 := by
  pointwise [k0_pay7, k0_pay6]
  refine (congrArg₂ (IntOp.cmpi .eq) (quot16 ⟨r, by omega⟩) (quot32 c)).trans ?_
  rw [cmpi_eq (by show (r : ℕ) / 16 < _; omega) (by omega)]
  simp only [eq_comm]

/-- The projected input rows. -/
theorem key_apply (c : Fin 1024) (d : Fin 512) :
    k0_pay4 (F := Ideal) X Wk (ix2 c d) = proj (xOf X ⟨c / 32, by omega⟩) (wOf Wk) ⟨c % 32, by omega⟩ d := by
  pointwise [k0_pay4, k0_pay2]
  rfl

/-- The projected state rows. -/
theorem query_apply (c : Fin 512) (d : Fin 512) :
    k0_pay5 (F := Ideal) H Wq (ix2 c d) = proj (hOf H ⟨c / 16, by omega⟩) (wOf Wq) ⟨c % 16, by omega⟩ d := by
  pointwise [k0_pay5, k0_pay3]
  rfl

/-- The masked scores of the first group. -/
theorem scores0_apply (r : Fin 256) (c : Fin 512) :
    k0_pay8 (F := Ideal) (k0_pay4 X Wk) (k0_pay5 H Wq) k0_pay6 (iota .tc S256x512 32 [1] iota_S256x512_d1_w32) (ix2 r c)
      = if (c : ℕ) / 32 = r / 16 then sc X H Wq Wk (bOf 0 r) (iOf r) ⟨c % 32, by omega⟩ else ⊥ := by
  pointwise [k0_pay8]
  rw [mask_apply, select_bit, named_inv, named_mask]
  refine if_ctx_congr Iff.rfl (fun hc => ?_) fun _ => rfl
  refine congrArg (· * scale) (Finset.sum_congr rfl fun d _ => ?_)
  rw [query_apply, key_apply]
  have e1 : ∀ h, (⟨(r : ℕ) / 16, h⟩ : Fin 32) = bOf 0 r := fun h => Fin.ext (by show (r : ℕ) / 16 = 0 * 16 + r / 16; omega)
  have e2 : ∀ h, (⟨(c : ℕ) / 32, h⟩ : Fin 32) = bOf 0 r := fun h => Fin.ext (by show (c : ℕ) / 32 = 0 * 16 + r / 16; omega)
  simp only [e1, e2]

/-- The masked scores of the second group. -/
theorem scores1_apply (r : Fin 256) (c : Fin 512) :
    k0_pay14 (F := Ideal) (k0_pay4 X Wk) (k0_pay5 H Wq) (k0_pay7 k0_pay6 (iota .tc S256x512 32 [1] iota_S256x512_d1_w32)) (ix2 r c)
      = if (c : ℕ) / 32 = r / 16 then sc X H Wq Wk (bOf 1 r) (iOf r) ⟨c % 32, by omega⟩ else ⊥ := by
  pointwise [k0_pay14]
  rw [mask_apply, select_bit, named_inv, named_mask]
  refine if_ctx_congr Iff.rfl (fun hc => ?_) fun _ => rfl
  refine congrArg (· * scale) (Finset.sum_congr rfl fun d _ => ?_)
  rw [query_apply, key_apply]
  have e1 : ∀ h, (⟨(256 + r : ℕ) / 16, h⟩ : Fin 32) = bOf 1 r :=
    fun h => Fin.ext (by show (256 + r : ℕ) / 16 = 1 * 16 + r / 16; omega)
  have e2 : ∀ h, (⟨(512 + c : ℕ) / 32, h⟩ : Fin 32) = bOf 1 r :=
    fun h => Fin.ext (by show (512 + c : ℕ) / 32 = 1 * 16 + r / 16; omega)
  have e3 : (256 + r : ℕ) % 16 = r % 16 := by omega
  have e4 : (512 + c : ℕ) % 32 = c % 32 := by omega
  simp only [e1, e2, e3, e4]

/-! ## Largest score, exponentials, denominator, weights -/

/-- The first group's largest scores. -/
theorem top0_apply (r : Fin 256) (z : Fin 1) :
    k0_pay9 (F := Ideal) (k0_pay4 X Wk) (k0_pay5 H Wq) k0_pay6 (iota .tc S256x512 32 [1] iota_S256x512_d1_w32) (ix2 r z)
      = top (sc X H Wq Wk (bOf 0 r) (iOf r)) := by
  pointwise [k0_pay9]
  rw [ofBits_neg_inf, fold_block ⟨r / 16, by omega⟩ (sc X H Wq Wk (bOf 0 r) (iOf r)) _
    fun c => scores0_apply X H Wq Wk r c]
  rfl

/-- The first group's exponentials. -/
theorem exps0_apply (r : Fin 256) (c : Fin 512) :
    k0_pay10 (F := Ideal) (k0_pay4 X Wk) (k0_pay5 H Wq) k0_pay6 (iota .tc S256x512 32 [1] iota_S256x512_d1_w32) (ix2 r c)
      = if (c : ℕ) / 32 = r / 16 then
          Ideal.exp (sc X H Wq Wk (bOf 0 r) (iOf r) ⟨c % 32, by omega⟩ - top (sc X H Wq Wk (bOf 0 r) (iOf r))) else 0 := by
  pointwise [k0_pay10]
  rw [scores0_apply, top0_apply]
  split
  · rfl
  · exact exp_bot_sub _

/-- The first group's null exponentials. -/
theorem null0_apply (r : Fin 256) (z : Fin 1) :
    k0_pay11 (F := Ideal) (k0_pay4 X Wk) (k0_pay5 H Wq) k0_pay6 (iota .tc S256x512 32 [1] iota_S256x512_d1_w32) (ix2 r z)
      = Ideal.exp (0 - top (sc X H Wq Wk (bOf 0 r) (iOf r))) := by
  pointwise [k0_pay11]
  rw [top0_apply]

/-- The first group's denominators. -/
theorem den0_apply (r : Fin 256) (z : Fin 1) :
    k0_pay12 (F := Ideal) (k0_pay4 X Wk) (k0_pay5 H Wq) k0_pay6 (iota .tc S256x512 32 [1] iota_S256x512_d1_w32) (ix2 r z)
      = den (sc X H Wq Wk (bOf 0 r) (iOf r)) := by
  pointwise [k0_pay12]
  rw [null0_apply, sum_block ⟨r / 16, by omega⟩
    (fun s => Ideal.exp (sc X H Wq Wk (bOf 0 r) (iOf r) s - top (sc X H Wq Wk (bOf 0 r) (iOf r)))) _ fun c => exps0_apply X H Wq Wk r c]
  rfl

/-- The second group's largest scores. -/
theorem top1_apply (r : Fin 256) (z : Fin 1) :
    k0_pay15 (F := Ideal) (k0_pay4 X Wk) (k0_pay5 H Wq) (k0_pay7 k0_pay6 (iota .tc S256x512 32 [1] iota_S256x512_d1_w32)) (ix2 r z)
      = top (sc X H Wq Wk (bOf 1 r) (iOf r)) := by
  pointwise [k0_pay15]
  rw [ofBits_neg_inf, fold_block ⟨r / 16, by omega⟩ (sc X H Wq Wk (bOf 1 r) (iOf r)) _
    fun c => scores1_apply X H Wq Wk r c]
  rfl

/-- The second group's exponentials. -/
theorem exps1_apply (r : Fin 256) (c : Fin 512) :
    k0_pay16 (F := Ideal) (k0_pay4 X Wk) (k0_pay5 H Wq) (k0_pay7 k0_pay6 (iota .tc S256x512 32 [1] iota_S256x512_d1_w32)) (ix2 r c)
      = if (c : ℕ) / 32 = r / 16 then
          Ideal.exp (sc X H Wq Wk (bOf 1 r) (iOf r) ⟨c % 32, by omega⟩ - top (sc X H Wq Wk (bOf 1 r) (iOf r))) else 0 := by
  pointwise [k0_pay16]
  rw [scores1_apply, top1_apply]
  split
  · rfl
  · exact exp_bot_sub _

/-- The second group's null exponentials. -/
theorem null1_apply (r : Fin 256) (z : Fin 1) :
    k0_pay17 (F := Ideal) (k0_pay4 X Wk) (k0_pay5 H Wq) (k0_pay7 k0_pay6 (iota .tc S256x512 32 [1] iota_S256x512_d1_w32)) (ix2 r z)
      = Ideal.exp (0 - top (sc X H Wq Wk (bOf 1 r) (iOf r))) := by
  pointwise [k0_pay17]
  rw [top1_apply]

/-- The second group's denominators. -/
theorem den1_apply (r : Fin 256) (z : Fin 1) :
    k0_pay18 (F := Ideal) (k0_pay4 X Wk) (k0_pay5 H Wq) (k0_pay7 k0_pay6 (iota .tc S256x512 32 [1] iota_S256x512_d1_w32)) (ix2 r z)
      = den (sc X H Wq Wk (bOf 1 r) (iOf r)) := by
  pointwise [k0_pay18]
  rw [null1_apply, sum_block ⟨r / 16, by omega⟩
    (fun s => Ideal.exp (sc X H Wq Wk (bOf 1 r) (iOf r) s - top (sc X H Wq Wk (bOf 1 r) (iOf r)))) _ fun c => exps1_apply X H Wq Wk r c]
  rfl

/-- An exponential over the denominator, or 0 over it. -/
theorem div_ite (P : Prop) [Decidable P] (a d : EReal) (hd : d ≠ 0) :
    Ideal.div (if P then a else 0) d = if P then Ideal.div a d else 0 := by
  split
  · rfl
  · rw [Ideal.div, if_neg hd, zero_mul]

/-- The first group's attention weights. -/
abbrev wgts0 : FVec Ideal S256x512 .f32 :=
  k0_pay13 (k0_pay10 (k0_pay4 X Wk) (k0_pay5 H Wq) k0_pay6 (iota .tc S256x512 32 [1] iota_S256x512_d1_w32))
    (k0_pay12 (k0_pay4 X Wk) (k0_pay5 H Wq) k0_pay6 (iota .tc S256x512 32 [1] iota_S256x512_d1_w32))

/-- The second group's attention weights. -/
abbrev wgts1 : FVec Ideal S256x512 .f32 :=
  k0_pay19 (k0_pay4 X Wk) (k0_pay5 H Wq) (k0_pay7 k0_pay6 (iota .tc S256x512 32 [1] iota_S256x512_d1_w32))

/-- The first group's attention weights: the softmax weights in a row's own block, 0 elsewhere. -/
theorem wgts0_apply (r : Fin 256) (c : Fin 512) (hd : den (sc X H Wq Wk (bOf 0 r) (iOf r)) ≠ 0) :
    wgts0 X H Wq Wk (ix2 r c) = if (c : ℕ) / 32 = r / 16 then wgt (sc X H Wq Wk (bOf 0 r) (iOf r)) ⟨c % 32, by omega⟩ else 0 := by
  pointwise [k0_pay13]
  rw [exps0_apply, den0_apply, div_ite _ _ _ hd]
  rfl

/-- The second group's attention weights: the softmax weights in a row's own block, 0 elsewhere. -/
theorem wgts1_apply (r : Fin 256) (c : Fin 512) (hd : den (sc X H Wq Wk (bOf 1 r) (iOf r)) ≠ 0) :
    wgts1 X H Wq Wk (ix2 r c) = if (c : ℕ) / 32 = r / 16 then wgt (sc X H Wq Wk (bOf 1 r) (iOf r)) ⟨c % 32, by omega⟩ else 0 := by
  pointwise [k0_pay19]
  rw [exps1_apply, den1_apply, div_ite _ _ _ hd]
  rfl

/-- The null weights of all state rows of the block. -/
abbrev nulls (k : FVec Ideal S1024x512 .f32) (q : FVec Ideal S512x512 .f32) : FVec Ideal S32x16 .f32 :=
  k0_pay20 k q (k0_pay7 k0_pay6 (iota .tc S256x512 32 [1] iota_S256x512_d1_w32))
    (k0_pay11 k q k0_pay6 (iota .tc S256x512 32 [1] iota_S256x512_d1_w32))
    (k0_pay12 k q k0_pay6 (iota .tc S256x512 32 [1] iota_S256x512_d1_w32))

/-- The null weight of each state row. -/
theorem nulls_apply (b : Fin 32) (i : Fin 16) :
    nulls (k0_pay4 X Wk) (k0_pay5 H Wq) (ix2 b i) = nul (sc X H Wq Wk b i) := by
  pointwise [k0_pay20]
  by_cases h : (b : ℕ) < 16
  · simp only [dif_pos h]
    rw [null0_apply, den0_apply]
    have e1 : ∀ h, bOf 0 ⟨(b : ℕ) * 16 + i, h⟩ = b := fun h => Fin.ext (by show 0 * 16 + ((b : ℕ) * 16 + i) / 16 = b; omega)
    have e2 : ∀ h, iOf ⟨(b : ℕ) * 16 + i, h⟩ = i := fun h => Fin.ext (by show ((b : ℕ) * 16 + i) % 16 = i; omega)
    simp only [e1, e2]
    rfl
  · simp only [dif_neg h]
    rw [null1_apply, den1_apply]
    have e1 : ∀ h, bOf 1 ⟨((b : ℕ) - 16) * 16 + i, h⟩ = b :=
      fun h => Fin.ext (by show 1 * 16 + (((b : ℕ) - 16) * 16 + i) / 16 = b; omega)
    have e2 : ∀ h, iOf ⟨((b : ℕ) - 16) * 16 + i, h⟩ = i := fun h => Fin.ext (by show (((b : ℕ) - 16) * 16 + i) % 16 = i; omega)
    simp only [e1, e2]
    rfl

end Cert.Scores
-- ==== Proof.Active.lean ====
module

public import proofs.«01_k».proof.Proof.Scores

@[expose] public section

set_option maxRecDepth 16384

/-! # The kernel's active rows

A state row is active when fewer than 8 rows of its batch element have a smaller null weight. The kernel counts those
rows with a matrix product of zeros and ones, gives each active row the column `8 * batch element + rank` of a
compacted table, and writes the assignment as a 512 by 256 matrix of zeros and ones. -/

noncomputable section

namespace Cert.Active

open Idealize.ShloMosaic Cert.KernelIdeal Cert.KernelIdeal.Gen Cert.Spec Cert.Words Cert.Rank Cert.Scores

variable (k : FVec Ideal S1024x512 .f32) (q : FVec Ideal S512x512 .f32)

/-- The null weights with the row repeated along the lanes: lane `l` has that of row `l % 16`. -/
abbrev perRow : FVec Ideal S32x256 .f32 :=
  k0_pay21 k q (k0_pay7 k0_pay6 (iota .tc S256x512 32 [1] iota_S256x512_d1_w32))
    (k0_pay11 k q k0_pay6 (iota .tc S256x512 32 [1] iota_S256x512_d1_w32))
    (k0_pay12 k q k0_pay6 (iota .tc S256x512 32 [1] iota_S256x512_d1_w32))

/-- The null weights with each row's repeated 16 times: lane `l` has that of row `l / 16`. -/
abbrev perOther : FVec Ideal S32x256 .f32 :=
  k0_pay22 k q (k0_pay7 k0_pay6 (iota .tc S256x512 32 [1] iota_S256x512_d1_w32))
    (k0_pay11 k q k0_pay6 (iota .tc S256x512 32 [1] iota_S256x512_d1_w32))
    (k0_pay12 k q k0_pay6 (iota .tc S256x512 32 [1] iota_S256x512_d1_w32))

theorem perRow_apply (b : Fin 32) (l : Fin 256) : perRow k q (ix2 b l) = nulls k q (ix2 b ⟨l % 16, by omega⟩) := by
  pointwise [k0_pay21]
  have key : ∀ (a : FVec Ideal S32x16 .f32) (n : ℕ) (hn : n < 16), n = (l : ℕ) % 16 →
      a (ix2 b ⟨n, hn⟩) = a (ix2 b ⟨l % 16, by omega⟩) := by
    rintro a n hn rfl; rfl
  repeat' split
  all_goals (refine key _ _ _ ?_; omega)

theorem perOther_apply (b : Fin 32) (l : Fin 256) : perOther k q (ix2 b l) = nulls k q (ix2 b ⟨l / 16, by omega⟩) := by
  pointwise [k0_pay22]

/-- 1 at lane `l` when row `l / 16` comes before row `l % 16`. -/
abbrev beats : FVec Ideal S32x256 .f32 :=
  k0_pay25 (perRow k q) (perOther k q) (iota .tc S32x256 32 [1] iota_S32x256_d1_w32) 16#32 k0_pay23 k0_pay24 1#1

open Classical in
theorem beats_apply (b : Fin 32) (l : Fin 256) :
    beats k q (ix2 b l) = if Before (fun i => nulls k q (ix2 b i)) ⟨l / 16, by omega⟩ ⟨l % 16, by omega⟩ then 1 else 0 := by
  pointwise [k0_pay25, k0_pay23, k0_pay24]
  rw [perRow_apply, perOther_apply]
  have h := (congrArg₂ (IntOp.cmpi .slt) (quot16 ⟨l, by omega⟩) (rest16 ⟨l, by omega⟩)).trans
    (cmpi_slt ⟨l / 16, by omega⟩ ⟨l % 16, by omega⟩)
  refine (congrArg (fun w => FloatOps.sitofp .f32 (BitVec.setWidth 32
    (IntOp.ori (BitVec.ofBool (decide _)) (IntOp.andi (BitVec.ofBool (decide _)) w)))) h).trans ?_
  rw [or_and_ind]
  exact if_congr Iff.rfl rfl rfl

/-- The counted ranks where they are below 8, −1 elsewhere. -/
abbrev ranks : FVec Ideal S32x16 .f32 :=
  k0_pay29 (beats k q) (iota .tc S256x16 32 [1] iota_S256x16_d1_w32) 16#32 k0_pay26 k0_pay27 k0_pay28

theorem ranks_apply (b : Fin 32) (i : Fin 16) :
    ranks k q (ix2 b i) = if rank (fun i => nulls k q (ix2 b i)) i < 8
      then ((rank (fun i => nulls k q (ix2 b i)) i : ℝ) : EReal) else ((-1 : ℝ) : EReal) := by
  pointwise [k0_pay29, k0_pay26, k0_pay27, k0_pay28]
  refine (congrArg (fun S : EReal => if S < Ideal.ofBits .f32 0x41000000#32 then S else Ideal.ofBits .f32 0xBF800000#32)
    (?_ : _ = ((rank (fun i => nulls k q (ix2 b i)) i : ℝ) : EReal))).trans ?_
  · classical
    refine (Finset.sum_congr rfl fun x _ => congrArg₂ (· * ·) (beats_apply k q b x)
      (rest16_ind (φ := .f32) ⟨x, by omega⟩ (a := i) (by omega))).trans ?_
    rw [Fin.sum_univ_tiles 16 16 rfl]
    unfold rank
    rw [← sum_ind]
    refine Finset.sum_congr rfl fun j _ => ?_
    have h1 : ∀ t : Fin 16, (j * 16 + t : ℕ) / 16 = j := fun t => by omega
    have h2 : ∀ t : Fin 16, (j * 16 + t : ℕ) % 16 = t := fun t => by omega
    simp only [h1, h2]
    refine (sum_pick' i (fun t : Fin 16 => if (i : ℕ) = t then (1 : EReal) else 0) _ fun t => ?_).trans ?_
    · simp only [Fin.ext_iff, eq_comm]
    · rfl
  · rw [ofBits_eight, ofBits_neg_one]
    refine if_congr ?_ rfl rfl
    rw [EReal.coe_lt_coe_iff]
    norm_cast

/-- 1 at the batch element of a state row. -/
theorem batch_apply (R : Fin 512) (y : Fin 32) : k0_pay30 (F := Ideal) (ix2 R y) = if (y : ℕ) = R / 16 then 1 else 0 := by
  pointwise [k0_pay30]
  exact quot16_ind (φ := .f32) R (a := y) (by omega)

/-- Spreading a table by batch element and row over the state rows of the block. -/
theorem spread_apply (a : FVec Ideal S32x16 .f32) (R : Fin 512) (z : Fin 1) :
    k0_pay31 (F := Ideal) a k0_pay30 (iota .tc S512x16 32 [0] iota_S512x16_d0_w32)
      (iota .tc S512x16 32 [1] iota_S512x16_d1_w32) 16#32 (ix2 R z) = a (ix2 ⟨R / 16, by omega⟩ ⟨R % 16, by omega⟩) := by
  pointwise [k0_pay31]
  refine (Finset.sum_congr rfl fun (x : Fin 16) _ => congrArg₂ (fun v w : EReal => v * w)
    (sum_pick ⟨R / 16, by omega⟩ (fun y : Fin 32 => (k0_pay30 (F := Ideal) (ix2 R y) : EReal)) (fun y => a (ix2 y x)) fun y => ?_)
    (rest16_ind_nz (φ := .f32) R (a := x) (by omega))).trans ?_
  · rw [batch_apply]; simp only [Fin.ext_iff]
  · exact sum_pick' ⟨R % 16, by omega⟩ (fun y : Fin 16 => if (y : ℕ) = R % 16 then (1 : EReal) else 0)
      (fun x => a (ix2 ⟨R / 16, by omega⟩ x)) fun y => by simp only [Fin.ext_iff]

/-- The ranks, one per state row of the block. -/
abbrev rowRanks : FVec Ideal S512x1 .f32 :=
  k0_pay31 (ranks k q) k0_pay30 (iota .tc S512x16 32 [0] iota_S512x16_d0_w32)
    (iota .tc S512x16 32 [1] iota_S512x16_d1_w32) 16#32

theorem rowRanks_apply (R : Fin 512) (z : Fin 1) :
    rowRanks k q (ix2 R z) = ranks k q (ix2 ⟨R / 16, by omega⟩ ⟨R % 16, by omega⟩) := spread_apply (ranks k q) R z

/-- The assignment of compacted columns to state rows. -/
abbrev assign : FVec Ideal S512x256 .f32 := k0_pay35 (rowRanks k q) k0_pay32 k0_pay33 k0_pay34

theorem assign_apply (b : Fin 32) (i : Fin 16) (C : Fin 256) :
    assign k q (ix2 ⟨b * 16 + i, by omega⟩ C) =
      if rank (fun i => nulls k q (ix2 b i)) i < 8 ∧ b * 8 + rank (fun i => nulls k q (ix2 b i)) i = C then 1 else 0 := by
  pointwise [k0_pay35, k0_pay32, k0_pay33, k0_pay34]
  rw [rowRanks_apply]
  have e1 : ∀ h, (⟨(b * 16 + i : ℕ) / 16, h⟩ : Fin 32) = b := fun h => Fin.ext (by show (b * 16 + i : ℕ) / 16 = b; omega)
  have e2 : ∀ h, (⟨(b * 16 + i : ℕ) % 16, h⟩ : Fin 16) = i := fun h => Fin.ext (by show (b * 16 + i : ℕ) % 16 = i; omega)
  have e3 : (b * 16 + i : ℕ) / 16 = b := by omega
  simp only [e1, e2]
  rw [ranks_apply, ofBool_decide, sitofp_bit]
  have hq := congrArg (FloatOps.sitofp (F := Ideal) .f32) (quot16 ⟨b * 16 + i, by omega⟩)
  simp only [e3] at hq
  rw [sitofp_ofNat (by omega)] at hq
  refine if_congr ?_ rfl rfl
  refine (Eq.congr (congrArg (fun v : EReal => if (0 : EReal) ≤ _ then v * Ideal.ofBits .f32 0x41000000#32 + _ else
    Ideal.ofBits .f32 0xBF800000#32) hq) (sitofp_ofNat (by omega))).trans ?_
  rw [ofBits_eight, ofBits_neg_one]
  generalize rank (fun i => nulls k q (ix2 b i)) i = n
  by_cases hn : n < 8
  · have h0 : (0 : EReal) ≤ ((n : ℝ) : EReal) := by exact_mod_cast Nat.zero_le n
    rw [if_pos hn, if_pos h0]
    simp only [hn, true_and]
    rw [← EReal.coe_mul, ← EReal.coe_add, EReal.coe_eq_coe_iff]
    norm_cast
  · have h0 : ¬ (0 : EReal) ≤ ((-1 : ℝ) : EReal) := by
      rw [← EReal.coe_zero, EReal.coe_le_coe_iff]; norm_num
    rw [if_neg hn, if_neg h0]
    simp only [hn, false_and, iff_false]
    rw [EReal.coe_eq_coe_iff]
    have : (0 : ℝ) ≤ (C : ℕ) := Nat.cast_nonneg _
    intro h; linarith

end Cert.Active
-- ==== Proof.Block.lean ====
module

public import proofs.«01_k».proof.Proof.Active

@[expose] public section

set_option maxRecDepth 16384

/-! # One block of the kernel's result

With the assignment of compacted columns as zeros and ones, the kernel's gathers pick exactly the active rows, and its
last product adds an active row's change to that row and nothing to an inactive row. -/

noncomputable section

namespace Cert.Block

open Idealize.ShloMosaic Cert.KernelIdeal Cert.KernelIdeal.Gen Cert.Spec Cert.Words Cert.Rank Cert.Scores Cert.Active

section Gathers

variable (k : FVec Ideal S1024x512 .f32) (q : FVec Ideal S512x512 .f32)

/-- The rank of a state row of the block. -/
abbrev rk (b : Fin 32) (i : Fin 16) : ℕ := rank (fun i => nulls k q (ix2 b i)) i

/-- In the compacted column of an active row only that row has a one. -/
theorem assign_col (b : Fin 32) (i : Fin 16) (hr : rk k q b i < 8) (R : Fin 512) (C : Fin 256) (hC : (C : ℕ) = b * 8 + rk k q b i) :
    assign k q (ix2 R C) = if (R : ℕ) = b * 16 + i then 1 else 0 := by
  have hR : R = ⟨(⟨R / 16, by omega⟩ : Fin 32) * 16 + (⟨R % 16, by omega⟩ : Fin 16), by simp only; omega⟩ :=
    Fin.ext (by simp only; omega)
  rw [hR, assign_apply]
  refine if_congr ?_ rfl rfl
  simp only
  constructor
  · rintro ⟨h1, h2⟩
    rw [hC] at h2
    have e1 : (R : ℕ) / 16 = b := by omega
    have e1' : (⟨R / 16, by omega⟩ : Fin 32) = b := Fin.ext e1
    rw [e1'] at h1 h2
    replace h1 : rk k q b ⟨R % 16, by omega⟩ < 8 := h1
    replace h2 : (R : ℕ) / 16 * 8 + rk k q b ⟨R % 16, by omega⟩ = b * 8 + rk k q b i := h2
    have h3 : rk k q b ⟨R % 16, by omega⟩ = rk k q b i := by omega
    have e2 : (⟨R % 16, by omega⟩ : Fin 16) = i := rank_injective _ h3
    have e3 : (R : ℕ) % 16 = i := congrArg Fin.val e2
    omega
  · intro h
    have e1' : (⟨R / 16, by omega⟩ : Fin 32) = b := Fin.ext (by show (R : ℕ) / 16 = b; omega)
    have e2' : (⟨R % 16, by omega⟩ : Fin 16) = i := Fin.ext (by show (R : ℕ) % 16 = i; omega)
    have e1 : (R : ℕ) / 16 = b := by omega
    rw [e1', e2', e1]
    exact ⟨hr, hC.symm⟩

/-- In an active row only its compacted column has a one. -/
theorem assign_row (b : Fin 32) (i : Fin 16) (hr : rk k q b i < 8) (R : Fin 512) (hR : (R : ℕ) = b * 16 + i) (C : Fin 256) :
    assign k q (ix2 R C) = if (C : ℕ) = b * 8 + rk k q b i then 1 else 0 := by
  have e : R = ⟨b * 16 + i, by omega⟩ := Fin.ext hR
  rw [e, assign_apply]
  refine if_congr ?_ rfl rfl
  exact ⟨fun h => h.2.symm, fun h => ⟨hr, h.symm⟩⟩

/-- An inactive row has no one. -/
theorem assign_row_zero (b : Fin 32) (i : Fin 16) (hr : ¬ rk k q b i < 8) (R : Fin 512) (hR : (R : ℕ) = b * 16 + i) (C : Fin 256) :
    assign k q (ix2 R C) = 0 := by
  have e : R = ⟨b * 16 + i, by omega⟩ := Fin.ext hR
  rw [e, assign_apply]
  exact if_neg fun h => hr h.1

/-- A gather of rows of the first group picks the active row. -/
theorem gather0 (b : Fin 32) (i : Fin 16) (hb : (b : ℕ) < 16) (hr : rk k q b i < 8) (C : Fin 256)
    (hC : (C : ℕ) = b * 8 + rk k q b i) (f : Fin 256 → EReal) :
    ∑ x : Fin 256, (assign k q (ix2 ⟨x, by omega⟩ C) : EReal) * f x = f ⟨b * 16 + i, by omega⟩ :=
  sum_pick _ (fun x : Fin 256 => (assign k q (ix2 ⟨x, by omega⟩ C) : EReal)) f fun x => by
    rw [assign_col k q b i hr _ C hC]; simp only [Fin.ext_iff]

/-- A gather of rows of the second group picks the active row. -/
theorem gather1 (b : Fin 32) (i : Fin 16) (hb : ¬ (b : ℕ) < 16) (hr : rk k q b i < 8) (C : Fin 256)
    (hC : (C : ℕ) = b * 8 + rk k q b i) (f : Fin 256 → EReal) :
    ∑ x : Fin 256, (assign k q (ix2 ⟨256 + x, by omega⟩ C) : EReal) * f x = f ⟨(b - 16) * 16 + i, by omega⟩ :=
  sum_pick _ (fun x : Fin 256 => (assign k q (ix2 ⟨256 + x, by omega⟩ C) : EReal)) f fun x => by
    rw [assign_col k q b i hr _ C hC]
    refine if_congr ?_ rfl rfl
    simp only [Fin.ext_iff]
    omega

/-- The compacted state rows: the column of an active row holds that row. -/
theorem compactH_apply (h : FVec Ideal S512x512 .f32) (b : Fin 32) (i : Fin 16) (hr : rk k q b i < 8) (C : Fin 256)
    (hC : (C : ℕ) = b * 8 + rk k q b i) (d : Fin 512) :
    k0_pay36 (F := Ideal) h (rowRanks k q) k0_pay32 k0_pay33 k0_pay34 (ix2 C d) = h (ix2 ⟨b * 16 + i, by omega⟩ d) := by
  pointwise [k0_pay36]
  by_cases hb : (b : ℕ) < 16
  · rw [dif_pos (by omega)]
    exact gather0 k q b i hb hr C hC fun x => h (ix2 ⟨x, by omega⟩ d)
  · rw [dif_neg (by omega)]
    refine (gather1 k q b i hb hr ⟨128 + (C - 128), by omega⟩ (by show 128 + ((C : ℕ) - 128) = _; omega) fun x => h (ix2 ⟨256 + x, by omega⟩ d)).trans ?_
    refine congrArg (fun R => h (ix2 R d)) (Fin.ext ?_)
    show 256 + ((b - 16) * 16 + i : ℕ) = b * 16 + i
    omega

end Gathers

variable (X : Vec Ideal S32x32x512 .f32) (H : Vec Ideal S32x16x512 .f32) (Wq Wk Wv : Vec Ideal S512x512 .f32)
  (Wx Wh : Vec Ideal S512x1536 .f32) (bx bh : Vec Ideal S1x1536 .f32)

/-- A row of attention weights against the input rows of its group: only the row's own batch element counts. -/
theorem average (b : Fin 32) (g : Fin 16) (w : Fin 32 → EReal) (W : Fin 512 → EReal) (f : Fin 32 → EReal) (F : Fin 512 → EReal)
    (hW : ∀ c : Fin 512, W c = if (c : ℕ) / 32 = g then w ⟨c % 32, by omega⟩ else 0)
    (hF : ∀ c : Fin 512, (c : ℕ) / 32 = g → F c = f ⟨c % 32, by omega⟩) :
    ∑ c, W c * F c = ∑ s, w s * f s := by
  refine sum_block g (fun s => w s * f s) _ fun c => ?_
  rw [hW]
  split
  · rename_i h; rw [hF c h]
  · exact zero_mul _

/-- The compacted gates of the input before the bias. -/
theorem compactX_apply (b : Fin 32) (i : Fin 16) (hd : den (sc X H Wq Wk b i) ≠ 0)
    (hr : rk (k0_pay4 X Wk) (k0_pay5 H Wq) b i < 8) (C : Fin 256)
    (hC : (C : ℕ) = b * 8 + rk (k0_pay4 X Wk) (k0_pay5 H Wq) b i) (e : Fin 1536) :
    k0_pay37 (F := Ideal) (k0_pay2 X) (wgts0 X H Wq Wk) (wgts1 X H Wq Wk) (rowRanks (k0_pay4 X Wk) (k0_pay5 H Wq))
        k0_pay32 k0_pay33 k0_pay34 Wv Wx (ix2 C e)
      = ∑ d, (∑ c, (∑ s, wgt (sc X H Wq Wk b i) s * xOf X b s c) * wOf Wv c d) * wOf Wx d e := by
  pointwise [k0_pay37, k0_pay2]
  refine Finset.sum_congr rfl fun d _ => congrArg (fun v : EReal => v * wOf Wx d e) ?_
  refine Finset.sum_congr rfl fun c _ => congrArg (fun v : EReal => v * wOf Wv c d) ?_
  by_cases hb : (b : ℕ) < 16
  · rw [dif_pos (by omega)]
    refine (Finset.sum_congr rfl fun y _ => congrArg₂ (fun v w : EReal => v * w)
      (gather0 _ _ b i hb hr C hC fun x => wgts0 X H Wq Wk (ix2 x y)) rfl).trans ?_
    have e1 : ∀ h, bOf 0 ⟨(b : ℕ) * 16 + i, h⟩ = b := fun h => Fin.ext (by show 0 * 16 + ((b : ℕ) * 16 + i) / 16 = b; omega)
    have e2 : ∀ h, iOf ⟨(b : ℕ) * 16 + i, h⟩ = i := fun h => Fin.ext (by show ((b : ℕ) * 16 + i) % 16 = i; omega)
    refine average b ⟨b, hb⟩ _ _ (fun s => xOf X b s c) _ (fun y => ?_) fun y hy => ?_
    · have hw := wgts0_apply X H Wq Wk ⟨b * 16 + i, by omega⟩ y (by rw [e1, e2]; exact hd)
      rw [e1, e2] at hw
      have e3 : (b * 16 + i : ℕ) / 16 = b := by omega
      simp only [e3] at hw
      exact hw
    · refine congrArg (fun B => X (ix3 B _ c)) (Fin.ext ?_)
      exact hy
  · rw [dif_neg (by omega)]
    refine (Finset.sum_congr rfl fun y _ => congrArg₂ (fun v w : EReal => v * w)
      (gather1 _ _ b i hb hr ⟨128 + (C - 128), by omega⟩ (by show 128 + ((C : ℕ) - 128) = _; omega) fun x => wgts1 X H Wq Wk (ix2 x y)) rfl).trans ?_
    have e1 : ∀ h, bOf 1 ⟨((b : ℕ) - 16) * 16 + i, h⟩ = b :=
      fun h => Fin.ext (by show 1 * 16 + (((b : ℕ) - 16) * 16 + i) / 16 = b; omega)
    have e2 : ∀ h, iOf ⟨((b : ℕ) - 16) * 16 + i, h⟩ = i := fun h => Fin.ext (by show (((b : ℕ) - 16) * 16 + i) % 16 = i; omega)
    refine average b ⟨b - 16, by omega⟩ _ _ (fun s => xOf X b s c) _ (fun y => ?_) fun y hy => ?_
    · have hw := wgts1_apply X H Wq Wk ⟨(b - 16) * 16 + i, by omega⟩ y (by rw [e1, e2]; exact hd)
      rw [e1, e2] at hw
      have e3 : ((b - 16) * 16 + i : ℕ) / 16 = b - 16 := by omega
      simp only [e3] at hw
      exact hw
    · have h1 : (512 + y : ℕ) / 32 = b := by
        have hy' : (y : ℕ) / 32 = b - 16 := hy
        omega
      have h2 : (512 + y : ℕ) % 32 = y % 32 := by omega
      simp only [h1, h2]

/-- The gates of compacted column `C`, from the tables the kernel's last step reads. -/
abbrev tabX (gx : FVec Ideal S256x1536 .f32) (C : Fin 256) (e : Fin 1536) : EReal := gx (ix2 C e) + bx (ix2 0 e)

/-- The state gates of compacted column `C`. -/
abbrev tabH (hc : FVec Ideal S256x512 .f32) (C : Fin 256) (e : Fin 1536) : EReal :=
  (∑ x, hc (ix2 C x) * Wh (ix2 x e)) + bh (ix2 0 e)

/-- The last step: a state row plus the assigned changes of its group. -/
theorem last_apply (h : FVec Ideal S512x512 .f32) (ct : FVec Ideal S512x256 .f32) (hc : FVec Ideal S256x512 .f32)
    (gx : FVec Ideal S256x1536 .f32) (b : Fin 32) (i : Fin 16) (d : Fin 512) (R : Fin 512) (hR : (R : ℕ) = b * 16 + i) :
    k0_pay1 (F := Ideal) h ct hc gx bx Wh bh (ix3 b i d) =
      if (b : ℕ) < 16 then
        h (ix2 R d) + ∑ x : Fin 128, ct (ix2 R ⟨x, by omega⟩) *
          change (tabX bx gx ⟨x, by omega⟩) (tabH Wh bh hc ⟨x, by omega⟩) (hc (ix2 ⟨x, by omega⟩ d)) d
      else
        h (ix2 R d) + ∑ x : Fin 128, ct (ix2 R ⟨128 + x, by omega⟩) *
          change (tabX bx gx ⟨128 + x, by omega⟩) (tabH Wh bh hc ⟨128 + x, by omega⟩) (hc (ix2 ⟨128 + x, by omega⟩ d)) d := by
  pointwise [k0_pay1]
  by_cases hb : (b : ℕ) < 16
  · rw [dif_pos (by omega), if_pos hb]
    have e : (⟨b * 16 + i, by omega⟩ : Fin 512) = R := Fin.ext hR.symm
    exact congrArg (fun R => h (ix2 R d) + ∑ x : Fin 128, ct (ix2 R ⟨x, by omega⟩) *
      change (tabX bx gx ⟨x, by omega⟩) (tabH Wh bh hc ⟨x, by omega⟩) (hc (ix2 ⟨x, by omega⟩ d)) d) e
  · rw [dif_neg (by omega), if_neg hb]
    have e : (⟨256 + (b * 16 + i - 256), by omega⟩ : Fin 512) = R :=
      Fin.ext (by show 256 + (b * 16 + i - 256 : ℕ) = R; omega)
    exact congrArg (fun R => h (ix2 R d) + ∑ x : Fin 128, ct (ix2 R ⟨128 + x, by omega⟩) *
      change (tabX bx gx ⟨128 + x, by omega⟩) (tabH Wh bh hc ⟨128 + x, by omega⟩) (hc (ix2 ⟨128 + x, by omega⟩ d)) d) e

/-- The block the kernel writes, from its input blocks and weights. -/
abbrev blockOut : Vec Ideal S32x16x512 .f32 :=
  k0_pay1 (k0_pay3 H) (assign (k0_pay4 X Wk) (k0_pay5 H Wq))
    (k0_pay36 (k0_pay3 H) (rowRanks (k0_pay4 X Wk) (k0_pay5 H Wq)) k0_pay32 k0_pay33 k0_pay34)
    (k0_pay37 (k0_pay2 X) (wgts0 X H Wq Wk) (wgts1 X H Wq Wk) (rowRanks (k0_pay4 X Wk) (k0_pay5 H Wq))
      k0_pay32 k0_pay33 k0_pay34 Wv Wx) bx Wh bh

theorem state_apply (b : Fin 32) (i : Fin 16) (d : Fin 512) (h : (b * 16 + i : ℕ) < 512) :
    k0_pay3 (F := Ideal) H (ix2 ⟨b * 16 + i, h⟩ d) = hOf H b i d := by
  pointwise [k0_pay3]

/-- Every element of the block the kernel writes. -/
theorem blockOut_apply (b : Fin 32) (i : Fin 16) (d : Fin 512) (hd : den (sc X H Wq Wk b i) ≠ 0) :
    blockOut X H Wq Wk Wv Wx Wh bx bh (ix3 b i d) =
      kout (xOf X b) (hOf H b) (wOf Wq) (wOf Wk) (wOf Wv) (wOf Wx) (wOf Wh) (wOf bx 0) (wOf bh 0) i d := by
  have hrk : rank (fun j => nul (score (xOf X b) (hOf H b) (wOf Wq) (wOf Wk) j)) i = rk (k0_pay4 X Wk) (k0_pay5 H Wq) b i := by
    refine congrArg (fun f => rank f i) (funext fun j => ?_)
    exact (nulls_apply X H Wq Wk b j).symm
  refine (last_apply Wh bx bh _ _ _ _ b i d ⟨b * 16 + i, by omega⟩ rfl).trans ?_
  rw [kout, hrk, state_apply]
  by_cases hr : rk (k0_pay4 X Wk) (k0_pay5 H Wq) b i < 8
  · rw [if_pos hr]
    have key : ∀ C : Fin 256, (C : ℕ) = b * 8 + rk (k0_pay4 X Wk) (k0_pay5 H Wq) b i →
        change (tabX bx (k0_pay37 (F := Ideal) (k0_pay2 X) (wgts0 X H Wq Wk) (wgts1 X H Wq Wk) (rowRanks (k0_pay4 X Wk) (k0_pay5 H Wq))
            k0_pay32 k0_pay33 k0_pay34 Wv Wx) C)
          (tabH Wh bh (k0_pay36 (F := Ideal) (k0_pay3 H) (rowRanks (k0_pay4 X Wk) (k0_pay5 H Wq)) k0_pay32 k0_pay33 k0_pay34) C)
          (k0_pay36 (F := Ideal) (k0_pay3 H) (rowRanks (k0_pay4 X Wk) (k0_pay5 H Wq)) k0_pay32 k0_pay33 k0_pay34 (ix2 C d)) d
        = change (gatesX (sc X H Wq Wk b i) (xOf X b) (wOf Wv) (wOf Wx) (wOf bx 0)) (gatesH (hOf H b i) (wOf Wh) (wOf bh 0))
            (hOf H b i d) d := by
      intro C hC
      have h1 : tabX bx (k0_pay37 (F := Ideal) (k0_pay2 X) (wgts0 X H Wq Wk) (wgts1 X H Wq Wk) (rowRanks (k0_pay4 X Wk) (k0_pay5 H Wq))
            k0_pay32 k0_pay33 k0_pay34 Wv Wx) C = gatesX (sc X H Wq Wk b i) (xOf X b) (wOf Wv) (wOf Wx) (wOf bx 0) := by
        funext e
        show _ + _ = _
        rw [compactX_apply X H Wq Wk Wv Wx b i hd hr C hC e]
        rfl
      have h2 : ∀ x, k0_pay36 (F := Ideal) (k0_pay3 H) (rowRanks (k0_pay4 X Wk) (k0_pay5 H Wq)) k0_pay32 k0_pay33 k0_pay34 (ix2 C x)
          = hOf H b i x := fun x => by
        rw [compactH_apply _ _ _ b i hr C hC x, state_apply]
      have h3 : tabH Wh bh (k0_pay36 (F := Ideal) (k0_pay3 H) (rowRanks (k0_pay4 X Wk) (k0_pay5 H Wq)) k0_pay32 k0_pay33 k0_pay34) C
          = gatesH (hOf H b i) (wOf Wh) (wOf bh 0) := by
        funext e
        show (∑ x, _) + _ = _
        simp only [h2]
        rfl
      rw [h1, h2, h3]
    by_cases hb : (b : ℕ) < 16
    · rw [if_pos hb]
      refine congrArg (fun v : EReal => hOf H b i d + v) ?_
      refine (sum_pick (⟨b * 8 + rk (k0_pay4 X Wk) (k0_pay5 H Wq) b i, by omega⟩ : Fin 128) _ _ fun x => ?_).trans (key _ rfl)
      rw [assign_row _ _ b i hr _ rfl]
      simp only [Fin.ext_iff]
    · rw [if_neg hb]
      refine congrArg (fun v : EReal => hOf H b i d + v) ?_
      refine (sum_pick (⟨b * 8 + rk (k0_pay4 X Wk) (k0_pay5 H Wq) b i - 128, by omega⟩ : Fin 128) _ _ fun x => ?_).trans
        (key _ (by show 128 + (b * 8 + rk (k0_pay4 X Wk) (k0_pay5 H Wq) b i - 128) = _; omega))
      rw [assign_row _ _ b i hr _ rfl]
      refine if_congr ?_ rfl rfl
      simp only [Fin.ext_iff]
      omega
  · rw [if_neg hr]
    simp only [assign_row_zero _ _ b i hr ⟨b * 16 + i, by omega⟩ rfl, zero_mul, Finset.sum_const_zero, add_zero, ite_self]

end Cert.Block
-- ==== Proof.KernelValue.lean ====
module

public import proofs.«01_k».proof.Proof.Block
public import Idealize.ShloMosaic.Lib.Pipeline.ValueKit
public import Idealize.ShloMosaic.Lib.Pipeline.ReadBack

@[expose] public section

set_option maxRecDepth 16384

/-! # The kernel's result array

The first grid point copies the two gate weight matrices into scratch memory, the later ones find them there. So every
grid point writes `blockOut` of its own blocks and the whole weights, and the blocks tile the result. -/

noncomputable section

namespace Cert.KernelValue

open Idealize.ShloMosaic Idealize.ShloMosaic.TcCoe Idealize.SL.Sem Idealize.ShloMosaic.Pipeline
open Cert.KernelIdeal Cert.KernelIdeal.Gen Cert.Spec Cert.Scores Cert.Block

variable (m : (ℓ : Loc nD τ sig) → Buf (Elt Ideal) ℓ) (c : Dev nD)

/-- A load of the whole of a buffer that one store filled reads what was stored. -/
theorem readCov_whole {S : Shape} {e : EltTy} {κ : Kind} {sp : Space} (v : View sig κ sp S e) {off : Fin S.rank → ℕ}
    (h : ∀ a, off a = 0) (inb : ∀ a, off a + S.size a ≤ S.size a) (w : S.Idx → Elt Ideal e) :
    v.readCov [(⟨Rect.whole S, w⟩ : View.Piece (Elt Ideal) S e)] (Rect.unit off S.size inb).toLoadRect = w := by
  obtain rfl : off = fun _ => 0 := funext h
  exact View.readCov_unit_zero v rfl _ w

/-- At the first point of a run the scratch buffers receive the gate weights. -/
theorem scratch_first (t : Fin cfg0.N) (h : t.val % 4 = 0) :
    (outsAt0 m c t.val t.isLt).2.1 = V m c main_arg5 ∧ (outsAt0 m c t.val t.isLt).2.2 = V m c main_arg6 := by
  rw [outsAt0_A m c t h h]
  constructor
  · frame_out
    exact (View.canon_unit_zero (off := fun _ => 0) rfl (fun a => by simp) _).trans rfl
  · frame_out
    exact (View.canon_unit_zero (off := fun _ => 0) rfl (fun a => by simp) _).trans rfl

/-- Every later point leaves the scratch buffers as they were. -/
theorem scratch_later (t : Fin cfg0.N) (h : ¬ t.val % 4 = 0) (h' : t.val - 1 < cfg0.N) :
    (outsAt0 m c t.val t.isLt).2.1 = (outsAt0 m c (t.val - 1) h').2.1 ∧
      (outsAt0 m c t.val t.isLt).2.2 = (outsAt0 m c (t.val - 1) h').2.2 := by
  rw [outsAt0_B m c t h h]
  exact ⟨by unfold sout0_B_0; rfl, by unfold sout0_B_1; rfl⟩

/-- The scratch buffers hold the gate weights after every point. -/
theorem scratch (n : ℕ) (hn : n < cfg0.N) :
    (outsAt0 m c n hn).2.1 = V m c main_arg5 ∧ (outsAt0 m c n hn).2.2 = V m c main_arg6 := by
  induction n with
  | zero => exact scratch_first m c ⟨0, hn⟩ rfl
  | succ n ih =>
    by_cases h : (n + 1) % 4 = 0
    · exact scratch_first m c ⟨n + 1, hn⟩ h
    · have hl := scratch_later m c ⟨n + 1, hn⟩ h (by show n + 1 - 1 < cfg0.N; omega)
      have hi := ih (by omega)
      exact ⟨hl.1.trans hi.1, hl.2.trans hi.2⟩

/-- Every grid point writes `blockOut` of its blocks. -/
theorem block (t : Fin cfg0.N) :
    (outsAt0 m c t.val t.isLt).1 = blockOut (iblk m c 0 t) (iblk m c 1 t) (iblk m c 2 t) (iblk m c 3 t) (iblk m c 4 t)
      (V m c main_arg5) (V m c main_arg6) (iblk m c 5 t) (iblk m c 6 t) := by
  by_cases h : t.val % 4 = 0
  · rw [outsAt0_A m c t h h]
    frame_out
    rw [readCov_whole, readCov_whole]
    · rfl
    all_goals decide
  · rw [outsAt0_B m c t h h]
    frame_out
    have hs := scratch m c (t.val - 1) (lt_of_le_of_lt (Nat.sub_le _ _) t.isLt)
    rw [hs.1, hs.2]
    rw [read_unread_whole, read_unread_whole]

theorem idx : ∀ t : Fin cfg0.N, win0_0.index t = ![t.val, 0, 0] ∧ win0_1.index t = ![t.val, 0, 0] ∧ win0_2.index t = ![0, 0] ∧
    win0_3.index t = ![0, 0] ∧ win0_4.index t = ![0, 0] ∧ win0_5.index t = ![0, 0] ∧ win0_6.index t = ![0, 0] ∧
    win0_7.index t = ![t.val, 0, 0] :=
  (by decide +kernel : ∀ t : Fin grid0.N, _)

/-- The batch that row `b` of point `t`'s blocks is. -/
def batch (t : Fin cfg0.N) (b : Fin 32) : Fin 128 := ⟨t.val * 32 + b.val, by have := t.isLt; have : cfg0.N = 4 := rfl; omega⟩

/-- Point `t`'s block of observations holds its 32 batches. -/
theorem block_x (t : Fin cfg0.N) (b s : Fin 32) (k : Fin 512) :
    (iblk m c 0 t : Vec Ideal S32x32x512 .f32) (ix3 b s k) = m ((c : Thread nD τ).loc main_arg0) (ix3 (batch t b) s k) := by
  blk_point [iblk, V, idx t]
  all_goals rfl

/-- Point `t`'s block of hidden states holds its 32 batches. -/
theorem block_h (t : Fin cfg0.N) (b : Fin 32) (i : Fin 16) (k : Fin 512) :
    (iblk m c 1 t : Vec Ideal S32x16x512 .f32) (ix3 b i k) = m ((c : Thread nD τ).loc main_arg1) (ix3 (batch t b) i k) := by
  blk_point [iblk, V, idx t]
  all_goals rfl

/-- Every point sees the whole query weights. -/
theorem block_wq (t : Fin cfg0.N) (i k : Fin 512) :
    (iblk m c 2 t : Vec Ideal S512x512 .f32) (ix2 i k) = m ((c : Thread nD τ).loc main_arg2) (ix2 i k) := by
  blk_point [iblk, V, idx t]

/-- Every point sees the whole key weights. -/
theorem block_wk (t : Fin cfg0.N) (i k : Fin 512) :
    (iblk m c 3 t : Vec Ideal S512x512 .f32) (ix2 i k) = m ((c : Thread nD τ).loc main_arg3) (ix2 i k) := by
  blk_point [iblk, V, idx t]

/-- Every point sees the whole value weights. -/
theorem block_wv (t : Fin cfg0.N) (i k : Fin 512) :
    (iblk m c 4 t : Vec Ideal S512x512 .f32) (ix2 i k) = m ((c : Thread nD τ).loc main_arg4) (ix2 i k) := by
  blk_point [iblk, V, idx t]

/-- Every point sees the bias of the input gates as one row. -/
theorem block_bx (t : Fin cfg0.N) (k : Fin 1536) :
    (iblk m c 5 t : Vec Ideal S1x1536 .f32) (ix2 0 k) = m ((c : Thread nD τ).loc main_arg7) (ix1 k) := by
  blk_point [iblk, V, idx t]

/-- Every point sees the bias of the hidden gates as one row. -/
theorem block_bh (t : Fin cfg0.N) (k : Fin 1536) :
    (iblk m c 6 t : Vec Ideal S1x1536 .f32) (ix2 0 k) = m ((c : Thread nD τ).loc main_arg8) (ix1 k) := by
  blk_point [iblk, V, idx t]

/-- The scores of slot `i` of batch `B`, from the whole arrays. -/
abbrev scoreOf (x0 : Vec Ideal S128x32x512 .f32) (x1 : Vec Ideal S128x16x512 .f32) (x2 x3 : Vec Ideal S512x512 .f32)
    (B : Fin 128) (i : Fin 16) (s : Fin 32) : EReal :=
  score (fun s k => x0 (ix3 B s k)) (fun i k => x1 (ix3 B i k)) (fun k d => x2 (ix2 k d)) (fun k d => x3 (ix2 k d)) i s

/-- The kernel's result from the whole arrays. -/
def result (x0 : Vec Ideal S128x32x512 .f32) (x1 : Vec Ideal S128x16x512 .f32) (x2 x3 x4 : Vec Ideal S512x512 .f32)
    (x5 x6 : Vec Ideal S512x1536 .f32) (x7 x8 : Vec Ideal S1536 .f32) : Vec Ideal S128x16x512 .f32 := fun j =>
  kout (fun s k => x0 (ix3 (j 0) s k)) (fun i k => x1 (ix3 (j 0) i k)) (fun k d => x2 (ix2 k d)) (fun k d => x3 (ix2 k d))
    (fun k d => x4 (ix2 k d)) (fun k e => x5 (ix2 k e)) (fun k e => x6 (ix2 k e)) (fun e => x7 (ix1 e)) (fun e => x8 (ix1 e))
    (j 1) (j 2)

/-- `blockOut` at one index, with its blocks' rows given. -/
theorem blockOut_of (X : Vec Ideal S32x32x512 .f32) (H : Vec Ideal S32x16x512 .f32) (Wq Wk Wv : Vec Ideal S512x512 .f32)
    (Wx Wh : Vec Ideal S512x1536 .f32) (Bx Bh : Vec Ideal S1x1536 .f32) {x : Fin 32 → Fin 512 → EReal}
    {h : Fin 16 → Fin 512 → EReal} {wq wk wv : Fin 512 → Fin 512 → EReal} {bx bh : Fin 1536 → EReal} (y : S32x16x512.Idx)
    (hx : xOf X (y 0) = x) (hh : hOf H (y 0) = h) (hq : wOf Wq = wq) (hk : wOf Wk = wk) (hv : wOf Wv = wv)
    (hbx : wOf Bx 0 = bx) (hbh : wOf Bh 0 = bh) (hd : den (score x h wq wk (y 1)) ≠ 0) :
    blockOut X H Wq Wk Wv Wx Wh Bx Bh y = kout x h wq wk wv (wOf Wx) (wOf Wh) bx bh (y 1) (y 2) := by
  subst hx hh hq hk hv hbx hbh
  have hb := blockOut_apply X H Wq Wk Wv Wx Wh Bx Bh (y 0) (y 1) (y 2) hd
  rwa [ix3_eta] at hb

/-- The result array, where no softmax denominator vanishes. -/
theorem final (hd : ∀ B i, den (scoreOf (m ((c : Thread nD τ).loc main_arg0)) (m ((c : Thread nD τ).loc main_arg1))
      (m ((c : Thread nD τ).loc main_arg2)) (m ((c : Thread nD τ).loc main_arg3)) B i) ≠ 0) :
    (dats m 0 c).arrAt 7 cfg0.N = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 7 _ (by decide +kernel) fun t _ y => ?_
  blk_simp
  rw [after0_7, block]
  have e : (win0_7.blk t).view.emb y = ix3 (batch t (y 0)) (y 1) (y 2) := by
    blk_ext [idx t]
    all_goals rfl
  rw [e]
  have hx : xOf (iblk m c 0 t) (y 0) = fun s k => m ((c : Thread nD τ).loc main_arg0) (ix3 (batch t (y 0)) s k) :=
    funext fun s => funext fun k => block_x m c t (y 0) s k
  have hh : hOf (iblk m c 1 t) (y 0) = fun s k => m ((c : Thread nD τ).loc main_arg1) (ix3 (batch t (y 0)) s k) :=
    funext fun s => funext fun k => block_h m c t (y 0) s k
  have hq : wOf (iblk m c 2 t) = fun s k => m ((c : Thread nD τ).loc main_arg2) (ix2 s k) :=
    funext fun s => funext fun k => block_wq m c t s k
  have hk : wOf (iblk m c 3 t) = fun s k => m ((c : Thread nD τ).loc main_arg3) (ix2 s k) :=
    funext fun s => funext fun k => block_wk m c t s k
  have hv : wOf (iblk m c 4 t) = fun s k => m ((c : Thread nD τ).loc main_arg4) (ix2 s k) :=
    funext fun s => funext fun k => block_wv m c t s k
  have hbx : wOf (iblk m c 5 t) 0 = fun k => m ((c : Thread nD τ).loc main_arg7) (ix1 k) :=
    funext fun k => block_bx m c t k
  have hbh : wOf (iblk m c 6 t) 0 = fun k => m ((c : Thread nD τ).loc main_arg8) (ix1 k) :=
    funext fun k => block_bh m c t k
  exact blockOut_of (iblk m c 0 t) (iblk m c 1 t) (iblk m c 2 t) (iblk m c 3 t) (iblk m c 4 t) (V m c main_arg5)
    (V m c main_arg6) (iblk m c 5 t) (iblk m c 6 t) y hx hh hq hk hv hbx hbh (hd (batch t (y 0)) (y 1))

end Cert.KernelValue
-- ==== Proof.RefScores.lean ====
module

public import proofs.«01_k».proof.Proof.Spec
public import proofs.«01_k».proof.Proof.Words
public import proofs.«01_k».proof.Proof.Gen.ReferenceIdeal.Read
public import Idealize.ShloMosaic.Lib.Pointwise

@[expose] public section

set_option maxRecDepth 16384

/-! # The reference's softmax

The reference appends a row of zeros to the observations and takes a softmax over all 33 rows. The appended row scores 0,
so the largest score, the denominator and the weights are those of the specification. -/

noncomputable section

namespace Cert.RefScores

open Idealize.ShloMosaic Idealize.ShloMosaic.TcCoe Idealize.SL.Sem Idealize.ShloMosaic.StableHlo
open Cert.ReferenceIdeal Cert.ReferenceIdeal.Gen Cert.ReferenceIdeal.Read Cert.Spec

variable (x0 : (⟨S128x32x512, .f32⟩ : BufTy).Contents (Elt Ideal)) (x1 : (⟨S128x16x512, .f32⟩ : BufTy).Contents (Elt Ideal))
  (x2 x3 x4 : (⟨S512x512, .f32⟩ : BufTy).Contents (Elt Ideal))

/-- The observations of batch `B`. -/
abbrev xs (B : Fin 128) (s : Fin 32) (k : Fin 512) : EReal := x0 (ix3 B s k)

/-- The states of batch `B`. -/
abbrev hs (B : Fin 128) (i : Fin 16) (k : Fin 512) : EReal := x1 (ix3 B i k)

/-- A weight matrix. -/
abbrev ws {m n : ℕ} (w : (⟨2, ![m, n]⟩ : Shape).Idx → EReal) (k : Fin m) (d : Fin n) : EReal := w (ix2 k d)

/-- The scores of slot `i` of batch `B`. -/
abbrev ys (B : Fin 128) (i : Fin 16) (s : Fin 32) : EReal := score (xs x0 B) (hs x1 B) (ws x2) (ws x3) i s

/-- The appended array at any of its rows. -/
theorem cat_at (B : Fin 128) (s : Fin 33) (k : Fin 512) :
    (val_main_v1 (F := Ideal) x0 (ix3 B s k) : EReal) = if h : (s : ℕ) < 32 then x0 (ix3 B ⟨s, h⟩ k) else 0 := by
  pointwise [val_main_v1, val_main_v0, val_main_cst]

/-- The appended array at one of the given rows. -/
theorem cat_row (B : Fin 128) (s : Fin 32) (k : Fin 512) : val_main_v1 (F := Ideal) x0 (ix3 B s.castSucc k) = xs x0 B s k :=
  (cat_at x0 B s.castSucc k).trans (dif_pos s.isLt)

/-- The appended array at the appended row. -/
theorem cat_last (B : Fin 128) (k : Fin 512) : (val_main_v1 (F := Ideal) x0 (ix3 B (Fin.last 32) k) : EReal) = 0 :=
  (cat_at x0 B (Fin.last 32) k).trans (dif_neg (lt_irrefl 32))

/-- The queries. -/
theorem query (B : Fin 128) (i : Fin 16) (d : Fin 512) :
    val_main_v2 (F := Ideal) x1 x2 (ix3 B i d) = proj (hs x1 B) (ws x2) i d := by
  pointwise [val_main_v2]
  rfl

/-- Keys and values: all 33 rows times a weight matrix. -/
theorem key_at (B : Fin 128) (s : Fin 33) (d : Fin 512) :
    (val_main_v3 (F := Ideal) x0 x3 (ix3 B s d) : EReal) = ∑ k : Fin 512, (val_main_v1 (F := Ideal) x0 (ix3 B s k) : EReal) * x3 (ix2 k d) := by
  unfold val_main_v3
  generalize val_main_v1 (F := Ideal) x0 = y
  pointwise

/-- A key. -/
theorem key_row (B : Fin 128) (s : Fin 32) (d : Fin 512) :
    val_main_v3 (F := Ideal) x0 x3 (ix3 B s.castSucc d) = proj (xs x0 B) (ws x3) s d := by
  refine (key_at x0 x3 B s.castSucc d).trans (Finset.sum_congr rfl fun k _ => ?_)
  rw [cat_row]

/-- The appended row's key. -/
theorem key_last (B : Fin 128) (d : Fin 512) : (val_main_v3 (F := Ideal) x0 x3 (ix3 B (Fin.last 32) d) : EReal) = 0 := by
  refine (key_at x0 x3 B _ d).trans (Finset.sum_eq_zero fun k _ => ?_)
  rw [cat_last, zero_mul]

/-- A value row. -/
theorem value_row (B : Fin 128) (s : Fin 32) (d : Fin 512) :
    val_main_v4 (F := Ideal) x0 x4 (ix3 B s.castSucc d) = proj (xs x0 B) (ws x4) s d := key_row x0 x4 B s d

/-- The appended row's value. -/
theorem value_last (B : Fin 128) (d : Fin 512) : (val_main_v4 (F := Ideal) x0 x4 (ix3 B (Fin.last 32) d) : EReal) = 0 :=
  key_last x0 x4 B d

/-- The float constant 512. -/
theorem ofBits_512 : Ideal.ofBits .f32 0x44000000#32 = ((512 : ℝ) : EReal) := by
  simp [Ideal.ofBits, Ideal.ieee, -EReal.coe_mul]; norm_num

/-- Dividing by √512 is multiplying by the scale. -/
theorem div_root (a : EReal) : Ideal.div a (Ideal.sqrt (Ideal.ofBits .f32 0x44000000#32)) = a * scale := by
  have h : (Real.sqrt 512 : ℝ) ≠ 0 := (Real.sqrt_pos.mpr (by norm_num)).ne'
  rw [ofBits_512, Ideal.sqrt_coe, if_neg (by norm_num)]
  unfold Ideal.div scale
  rw [if_neg (by exact_mod_cast h), EReal.coe_inv]

/-- A score at any of the 33 rows. -/
theorem score_at (B : Fin 128) (i : Fin 16) (s : Fin 33) :
    (val_main_v8 (F := Ideal) x0 x1 x2 x3 (ix3 B i s) : EReal) =
      (∑ d : Fin 512, (proj (hs x1 B) (ws x2) i d : EReal) * val_main_v3 (F := Ideal) x0 x3 (ix3 B s d)) * scale := by
  have hq : ∀ d, val_main_v2 (F := Ideal) x1 x2 (ix3 B i d) = proj (hs x1 B) (ws x2) i d := query x1 x2 B i
  unfold val_main_v8 val_main_v5
  revert hq
  generalize val_main_v2 (F := Ideal) x1 x2 = q
  generalize val_main_v3 (F := Ideal) x0 x3 = y
  intro hq
  pointwise [val_main_v7, val_main_v6, val_main_cst_0]
  rw [div_root]
  simp only [hq]

/-- A score. -/
theorem score_row (B : Fin 128) (i : Fin 16) (s : Fin 32) :
    val_main_v8 (F := Ideal) x0 x1 x2 x3 (ix3 B i s.castSucc) = ys x0 x1 x2 x3 B i s := by
  rw [score_at]
  simp only [key_row]
  rfl

/-- The appended row scores 0. -/
theorem score_last (B : Fin 128) (i : Fin 16) :
    (val_main_v8 (F := Ideal) x0 x1 x2 x3 (ix3 B i (Fin.last 32)) : EReal) = 0 := by
  rw [score_at]
  simp only [key_last, mul_zero, Finset.sum_const_zero, zero_mul]

/-- The maximum of one more number. -/
theorem fold_last {n : ℕ} (f : Fin (n + 1) → EReal) :
    Finset.univ.fold max ⊥ f = max (Finset.univ.fold max ⊥ fun i : Fin n => f i.castSucc) (f (Fin.last n)) := by
  refine le_antisymm ?_ (max_le ?_ ?_)
  · rw [Finset.fold_max_le]
    refine ⟨bot_le, fun i _ => ?_⟩
    induction i using Fin.lastCases with
    | last => exact le_max_right _ _
    | cast i => exact le_max_of_le_left ((Finset.le_fold_max _).mpr (Or.inr ⟨i, Finset.mem_univ _, le_rfl⟩))
  · rw [Finset.fold_max_le]
    exact ⟨bot_le, fun i _ => (Finset.le_fold_max _).mpr (Or.inr ⟨i.castSucc, Finset.mem_univ _, le_rfl⟩)⟩
  · exact (Finset.le_fold_max _).mpr (Or.inr ⟨Fin.last n, Finset.mem_univ _, le_rfl⟩)

/-- The largest score. -/
theorem top_at (B : Fin 128) (i : Fin 16) : val_main_v11 (F := Ideal) x0 x1 x2 x3 (ix2 B i) = top (ys x0 x1 x2 x3 B i) := by
  have h1 := score_row x0 x1 x2 x3 B i
  have h2 := score_last x0 x1 x2 x3 B i
  unfold val_main_v11 val_main_v9
  revert h1 h2
  generalize val_main_v8 (F := Ideal) x0 x1 x2 x3 = y
  intro h1 h2
  pointwise [val_main_v10, val_main_cst_1, val_main_cst_2]
  rw [Words.ofBits_neg_inf, fold_last]
  simp only [h1, h2, bot_le, max_eq_right]
  rfl

/-- The exponential of a shifted score. -/
theorem exp_at (B : Fin 128) (i : Fin 16) (s : Fin 33) :
    (val_main_v15 (F := Ideal) x0 x1 x2 x3 (ix3 B i s) : EReal) =
      Ideal.exp (val_main_v8 (F := Ideal) x0 x1 x2 x3 (ix3 B i s) - top (ys x0 x1 x2 x3 B i)) := by
  have h1 := top_at x0 x1 x2 x3 B i
  unfold val_main_v15 val_main_v14 val_main_v13 val_main_v12
  revert h1
  generalize val_main_v8 (F := Ideal) x0 x1 x2 x3 = y
  generalize val_main_v11 (F := Ideal) x0 x1 x2 x3 = z
  intro h1
  pointwise
  rw [h1]

/-- The denominator. -/
theorem den_at (B : Fin 128) (i : Fin 16) : val_main_v16 (F := Ideal) x0 x1 x2 x3 (ix2 B i) = den (ys x0 x1 x2 x3 B i) := by
  have h1 : ∀ s : Fin 32, (val_main_v15 (F := Ideal) x0 x1 x2 x3 (ix3 B i s.castSucc) : EReal) = _ := fun s =>
    (exp_at x0 x1 x2 x3 B i _).trans (by rw [score_row])
  have h2 : (val_main_v15 (F := Ideal) x0 x1 x2 x3 (ix3 B i (Fin.last 32)) : EReal) = _ :=
    (exp_at x0 x1 x2 x3 B i _).trans (by rw [score_last])
  unfold val_main_v16
  revert h1 h2
  generalize val_main_v15 (F := Ideal) x0 x1 x2 x3 = y
  intro h1 h2
  pointwise [val_main_cst_3]
  rw [Fin.sum_univ_castSucc]
  simp only [h1, h2]
  rfl

/-- A weight at any of the 33 rows. -/
theorem weight_at (B : Fin 128) (i : Fin 16) (s : Fin 33) :
    (val_main_v19 (F := Ideal) x0 x1 x2 x3 (ix3 B i s) : EReal) =
      Ideal.div (Ideal.exp (val_main_v8 (F := Ideal) x0 x1 x2 x3 (ix3 B i s) - top (ys x0 x1 x2 x3 B i)))
        (den (ys x0 x1 x2 x3 B i)) := by
  have h1 := den_at x0 x1 x2 x3 B i
  have h2 := exp_at x0 x1 x2 x3 B i s
  unfold val_main_v19 val_main_v18 val_main_v17
  revert h1 h2
  generalize val_main_v15 (F := Ideal) x0 x1 x2 x3 = y
  generalize val_main_v16 (F := Ideal) x0 x1 x2 x3 = z
  intro h1 h2
  pointwise
  rw [h1, h2]

/-- A weight. -/
theorem weight_row (B : Fin 128) (i : Fin 16) (s : Fin 32) :
    val_main_v19 (F := Ideal) x0 x1 x2 x3 (ix3 B i s.castSucc) = wgt (ys x0 x1 x2 x3 B i) s := by
  rw [weight_at, score_row]
  rfl

/-- The appended row's weight. -/
theorem weight_last (B : Fin 128) (i : Fin 16) :
    val_main_v19 (F := Ideal) x0 x1 x2 x3 (ix3 B i (Fin.last 32)) = nul (ys x0 x1 x2 x3 B i) := by
  rw [weight_at, score_last]
  rfl

/-- What the reference sorts by: the appended row's weight, negated. -/
theorem key_of_sort (B : Fin 128) (i : Fin 16) :
    (val_main_v22 (F := Ideal) x0 x1 x2 x3 (ix2 B i) : EReal) = -nul (ys x0 x1 x2 x3 B i) := by
  have h1 := weight_last x0 x1 x2 x3 B i
  unfold val_main_v22 val_main_v21 val_main_v20
  revert h1
  generalize val_main_v19 (F := Ideal) x0 x1 x2 x3 = y
  intro h1
  pointwise
  exact congrArg (fun v : EReal => -v) h1

/-- The weighted sum of the value rows: the appended row adds nothing. -/
theorem attended_at (B : Fin 128) (i : Fin 16) (d : Fin 512) :
    (val_main_v42 (F := Ideal) x0 x1 x2 x3 x4 (ix3 B i d) : EReal) =
      ∑ s, wgt (ys x0 x1 x2 x3 B i) s * proj (xs x0 B) (ws x4) s d := by
  have h1 := weight_row x0 x1 x2 x3 B i
  have h2 := value_row x0 x4 B
  have h3 := value_last x0 x4 B
  unfold val_main_v42
  revert h1 h2 h3
  generalize val_main_v19 (F := Ideal) x0 x1 x2 x3 = y
  generalize val_main_v4 (F := Ideal) x0 x4 = z
  intro h1 h2 h3
  pointwise
  rw [Fin.sum_univ_castSucc]
  simp only [h1, h2, h3, mul_zero, add_zero]

end Cert.RefScores
-- ==== Proof.RefMask.lean ====
module

public import proofs.«01_k».proof.Proof.RefScores
public import proofs.«01_k».proof.Proof.Rank
public import Idealize.ShloMosaic.Lib.Routing.OpsSet
public import Idealize.ShloMosaic.Lib.Routing.OpsPair

@[expose] public section

set_option maxRecDepth 16384

/-! # The reference's mask

The reference takes the eight slots of largest negated null weight, ties by position, and scatters ones to them. So its
mask is 1 at the slots whose rank by null weight is below 8, and 0 elsewhere. -/

noncomputable section

namespace Cert.RefMask

open Idealize.ShloMosaic Idealize.ShloMosaic.TcCoe Idealize.SL.Sem Idealize.ShloMosaic.StableHlo
open Cert.ReferenceIdeal Cert.ReferenceIdeal.Gen Cert.ReferenceIdeal.Read Cert.Spec Cert.RefScores Cert.Rank

variable (x0 : (⟨S128x32x512, .f32⟩ : BufTy).Contents (Elt Ideal)) (x1 : (⟨S128x16x512, .f32⟩ : BufTy).Contents (Elt Ideal))
  (x2 x3 x4 : (⟨S512x512, .f32⟩ : BufTy).Contents (Elt Ideal))

/-- Moving along the second axis of a table changes the second coordinate. -/
theorem along_one (B : Fin 128) (i p : Fin 16) : (ix2 B i : S128x16.Idx).along 1 p = ix2 B p := by
  funext a
  match a with
  | ⟨0, _⟩ => rfl
  | ⟨1, _⟩ => rfl

/-- The comparison that the sort of a row uses. -/
def above (y : S128x16.Idx → Ideal .f32) (B : Fin 128) (p q : Fin 16) : Bool :=
  FloatOps.cmpfTotal .gt (y (ix2 B p)) (y (ix2 B q)) == 1#1

/-- A sort of rows by `above` that carries a second table, read at one place. -/
theorem sort_at (y : S128x16.Idx → Ideal .f32) (z : IVec S128x16 32) (B : Fin 128) (k : Fin 16) :
    (Host.sort2 S128x16 1 (fun l r => FloatOps.cmpfTotal .gt l.1 r.1) y z).2 (ix2 B k) =
      z (ix2 B (sortedFrom (above y B) k)) := by
  unfold Host.sort2
  rw [dif_pos (show 1 < S128x16.rank by decide)]
  have hb : (fun p q : Fin 16 => (FloatOps.cmpfTotal .gt (y ((ix2 B k : S128x16.Idx).along 1 p))
      (y ((ix2 B k : S128x16.Idx).along 1 q)) == 1#1)) = above y B := by
    funext p q
    rw [along_one, along_one]
    rfl
  refine Eq.trans ?_ (congrArg z (along_one B k (sortedFrom (above y B) k)))
  exact congrArg (fun b : Fin 16 → Fin 16 → Bool => z ((ix2 B k : S128x16.Idx).along 1 (sortedFrom b k))) hb

/-- The `k`-th index of the sort of a row. -/
theorem topK_at (y : S128x16.Idx → Ideal .f32) (h : S128x16.Slices (fun _ => 0) S128x8) (B : Fin 128) (k : Fin 8) :
    (Host.topK S128x8 1 (FloatOps.cmpfTotal .gt) y h).2 (ix2 B k) =
      BitVec.ofNat 32 (sortedFrom (above y B) ⟨k, by omega⟩ : Fin 16) := by
  unfold Host.topK
  dsimp only
  pointwise
  generalize hz : (fun i : S128x16.Idx => BitVec.ofNat 32 (i 1 : ℕ)) = z
  rw [sort_at y z B ⟨k, by omega⟩, ← hz]
  generalize sortedFrom (above y B) _ = w
  rfl

/-- A row's comparison says that the first slot's null weight is the smaller. -/
theorem above_iff (B : Fin 128) (p q : Fin 16) :
    above (val_main_v22 (F := Ideal) x0 x1 x2 x3) B p q = true ↔ nul (ys x0 x1 x2 x3 B p) < nul (ys x0 x1 x2 x3 B q) := by
  have h1 := key_of_sort x0 x1 x2 x3 B p
  have h2 := key_of_sort x0 x1 x2 x3 B q
  unfold above
  rw [Ideal.cmpfTotal_def, h1, h2]
  show (BitVec.ofBool (decide (-nul (ys x0 x1 x2 x3 B q) < -nul (ys x0 x1 x2 x3 B p))) == 1#1) = true ↔ _
  simp only [EReal.neg_lt_neg_iff]
  by_cases h : nul (ys x0 x1 x2 x3 B p) < nul (ys x0 x1 x2 x3 B q) <;> simp [h]

/-- The `k`-th slot of the reference's order. -/
def slot (B : Fin 128) (k : Fin 8) : Fin 16 := sortedFrom (above (val_main_v22 (F := Ideal) x0 x1 x2 x3) B) ⟨k, by omega⟩

/-- The slots of the reference's order are those of rank below 8. -/
theorem slot_iff (B : Fin 128) (i : Fin 16) :
    (∃ k, slot x0 x1 x2 x3 B k = i) ↔ rank (fun j => nul (ys x0 x1 x2 x3 B j)) i < 8 := by
  rw [← exists_sortedFrom_iff (fun j => nul (ys x0 x1 x2 x3 B j)) _ (above_iff x0 x1 x2 x3 B) i 8]
  constructor
  · rintro ⟨k, h⟩
    exact ⟨⟨k, by omega⟩, k.isLt, h⟩
  · rintro ⟨k, hk, h⟩
    exact ⟨⟨k, hk⟩, h⟩

/-- A small number is not negative as a word. -/
theorem slt_zero {a : ℕ} (ha : a < 2 ^ 31) (b : BitVec 32) :
    Scalar.select (IntOp.cmpi .slt (BitVec.ofNat 32 a) 0#32) b (BitVec.ofNat 32 a) = BitVec.ofNat 32 a :=
  Routing.wrap_of_lt _ _ (by rw [BitVec.toNat_ofNat, Nat.mod_eq_of_lt (by omega)]; exact ha)

/-- The words of the batch. -/
theorem pair_zero (B : Fin 128) (k : Fin 8) :
    val_main_v39 (F := Ideal) x0 x1 x2 x3 (ix3 B k 0) = BitVec.ofNat 32 B := by
  unfold val_main_v39
  generalize val_main_v38 (F := Ideal) x0 x1 x2 x3 = y
  pointwise [val_main_v37, val_main_v36, val_main_v30, val_main_v29, val_main_v28, val_main_v27, val_main_v26, val_main_v25,
    val_main_v24, val_main_c, val_main_c_5]
  exact slt_zero (by omega) _

/-- The words of the slot. -/
theorem pair_one (B : Fin 128) (k : Fin 8) :
    val_main_v39 (F := Ideal) x0 x1 x2 x3 (ix3 B k 1) = BitVec.ofNat 32 (slot x0 x1 x2 x3 B k) := by
  have h : val_main_indices (F := Ideal) x0 x1 x2 x3 (ix2 B k) = BitVec.ofNat 32 (slot x0 x1 x2 x3 B k) :=
    topK_at (val_main_v22 (F := Ideal) x0 x1 x2 x3) _ B k
  unfold val_main_v39 val_main_v38 val_main_v35 val_main_v34 val_main_v32
  revert h
  generalize val_main_indices (F := Ideal) x0 x1 x2 x3 = y
  intro h
  pointwise [val_main_v33, val_main_v31, val_main_c_6, val_main_c_7]
  rw [h]
  exact slt_zero (by have := (slot x0 x1 x2 x3 B k).isLt; omega) _

/-- A small number as a signed word. -/
theorem toInt_ofNat {a : ℕ} (ha : a < 2 ^ 31) : (BitVec.ofNat 32 a).toInt = (a : ℤ) := by
  rw [BitVec.toInt_eq_toNat_of_lt] <;> simp only [BitVec.toNat_ofNat] <;> omega

/-- Where an update lands. -/
theorem lands (B B' : Fin 128) (k : Fin 8) (i : Fin 16) :
    scatter_S128x16_S128x8x2_S128x8_n_01_01_2.resultIdx? (ix2 B' k) (val_main_v39 (F := Ideal) x0 x1 x2 x3) = some (ix2 B i) ↔
      B' = B ∧ slot x0 x1 x2 x3 B k = i := by
  have h := Routing.scatter_lands2 scatter_S128x16_S128x8x2_S128x8_n_01_01_2 rfl rfl rfl (val_main_v39 (F := Ideal) x0 x1 x2 x3) B' k B i
  refine h.trans ?_
  have e0 := pair_zero x0 x1 x2 x3 B' k
  have e1 := pair_one x0 x1 x2 x3 B' k
  have hs := (slot x0 x1 x2 x3 B' k).isLt
  constructor
  · rintro ⟨a, b⟩
    have a' := (congrArg BitVec.toInt e0).symm.trans a
    have b' := (congrArg BitVec.toInt e1).symm.trans b
    rw [toInt_ofNat (by omega)] at a' b'
    have : B' = B := Fin.ext (by exact_mod_cast a')
    subst this
    exact ⟨rfl, Fin.ext (by exact_mod_cast b')⟩
  · rintro ⟨rfl, rfl⟩
    exact ⟨(congrArg BitVec.toInt e0).trans (toInt_ofNat (by omega)), (congrArg BitVec.toInt e1).trans (toInt_ofNat (by omega))⟩

/-- The mask. -/
theorem mask_at (B : Fin 128) (i : Fin 16) :
    (val_main_v41 (F := Ideal) x0 x1 x2 x3 (ix2 B i) : EReal) = if rank (fun j => nul (ys x0 x1 x2 x3 B j)) i < 8 then 1 else 0 := by
  have hone : ∀ k : S128x8.Idx, (val_main_v40 (F := Ideal) k : EReal) = 1 := by
    intro k
    rw [← ix2_eta k]
    pointwise [val_main_v40, val_main_cst_8]
  have hzero : (val_main_v23 (F := Ideal) (ix2 B i) : EReal) = 0 := by
    pointwise [val_main_v23, val_main_cst_4]
  unfold val_main_v41
  by_cases h : rank (fun j => nul (ys x0 x1 x2 x3 B j)) i < 8
  · rw [if_pos h]
    obtain ⟨k, hk⟩ := (slot_iff x0 x1 x2 x3 B i).mpr h
    exact Routing.scatter_set_hit _ _ _ _ _ _ (fun k _ => hone k) (ix2 B k) ((lands x0 x1 x2 x3 B B k i).mpr ⟨rfl, hk⟩)
  · rw [if_neg h]
    refine (Routing.scatter_set_miss _ _ _ _ _ fun k hk => h ?_).trans hzero
    rw [← ix2_eta k] at hk
    obtain ⟨_, e⟩ := (lands x0 x1 x2 x3 B _ _ i).mp hk
    exact (slot_iff x0 x1 x2 x3 B i).mp ⟨_, e⟩

end Cert.RefMask
-- ==== Proof.RefValue.lean ====
module

public import proofs.«01_k».proof.Proof.RefMask

@[expose] public section

set_option maxRecDepth 16384

/-! # The reference's result at one index -/

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Read Cert.Spec Cert.RefScores Cert.RefMask Cert.Rank

variable (x0 : (⟨S128x32x512, .f32⟩ : BufTy).Contents (Elt Ideal)) (x1 : (⟨S128x16x512, .f32⟩ : BufTy).Contents (Elt Ideal))
  (x2 x3 x4 : (⟨S512x512, .f32⟩ : BufTy).Contents (Elt Ideal)) (x5 x6 : (⟨S512x1536, .f32⟩ : BufTy).Contents (Elt Ideal))
  (x7 x8 : (⟨S1536, .f32⟩ : BufTy).Contents (Elt Ideal))

/-- A slot's mask: 1 for the eight slots that look least at the null row. -/
def mask (n : Fin 16 → EReal) (i : Fin 16) : EReal := if rank n i < 8 then 1 else 0

/-- The gates of the input as the reference computes them: values, then average, then mask, then gate weights and bias. -/
def gatesR (y : Fin 32 → EReal) (u : EReal) (x : Fin 32 → Fin 512 → EReal) (Wv : Fin 512 → Fin 512 → EReal)
    (Wx : Fin 512 → Fin 1536 → EReal) (bx : Fin 1536 → EReal) (e : Fin 1536) : EReal :=
  (∑ d, ((∑ s, wgt y s * proj x Wv s d) * u) * Wx d e) + bx e

/-- The state after a full update. -/
def next (gx gh : Fin 1536 → EReal) (h : EReal) (d : Fin 512) : EReal :=
  (1 - Ideal.logistic (gx (g1 d) + gh (g1 d))) *
    Ideal.tanh (gx (g2 d) + Ideal.logistic (gx (g0 d) + gh (g0 d)) * gh (g2 d)) +
      Ideal.logistic (gx (g1 d) + gh (g1 d)) * h

/-- The new state as the reference computes it. -/
def rout (x : Fin 32 → Fin 512 → EReal) (h : Fin 16 → Fin 512 → EReal) (Wq Wk Wv : Fin 512 → Fin 512 → EReal)
    (Wx Wh : Fin 512 → Fin 1536 → EReal) (bx bh : Fin 1536 → EReal) (i : Fin 16) (d : Fin 512) : EReal :=
  let u := mask (fun j => nul (score x h Wq Wk j)) i
  u * next (gatesR (score x h Wq Wk i) u x Wv Wx bx) (gatesH (h i) Wh bh) (h i d) d + (1 - u) * h i d

/-- The mask of slot `i` of batch `B`. -/
abbrev us (B : Fin 128) (i : Fin 16) : EReal := mask (fun j => nul (ys x0 x1 x2 x3 B j)) i

/-- The gates of the input. -/
theorem gates_x (B : Fin 128) (i : Fin 16) (e : Fin 1536) :
    (val_main_v49 (F := Ideal) x0 x1 x2 x3 x4 x5 x7 (ix3 B i e) : EReal) =
      gatesR (ys x0 x1 x2 x3 B i) (us x0 x1 x2 x3 B i) (xs x0 B) (ws x4) (ws x5) (fun e => x7 (ix1 e)) e := by
  have h1 : ∀ d, (val_main_v42 (F := Ideal) x0 x1 x2 x3 x4 (ix3 B i d) : EReal) = _ := attended_at x0 x1 x2 x3 x4 B i
  have h2 : (val_main_v41 (F := Ideal) x0 x1 x2 x3 (ix2 B i) : EReal) = us x0 x1 x2 x3 B i := mask_at x0 x1 x2 x3 B i
  unfold val_main_v49 val_main_v46 val_main_v45 val_main_v44 val_main_v43
  revert h1 h2
  generalize val_main_v42 (F := Ideal) x0 x1 x2 x3 x4 = y
  generalize val_main_v41 (F := Ideal) x0 x1 x2 x3 = z
  intro h1 h2
  pointwise [val_main_v48, val_main_v47]
  simp only [h1, h2]
  rfl

/-- The gates of the state. -/
theorem gates_h (B : Fin 128) (i : Fin 16) (e : Fin 1536) :
    (val_main_v53 (F := Ideal) x1 x6 x8 (ix3 B i e) : EReal) = gatesH (hs x1 B i) (ws x6) (fun e => x8 (ix1 e)) e := by
  pointwise [val_main_v53, val_main_v52, val_main_v51, val_main_v50]
  rfl

/-- The sigmoid as the reference writes it. -/
theorem sigmoid (a : EReal) : Ideal.div 1 (1 + Ideal.exp (-a)) = Ideal.logistic a := rfl

/-- The reset gate. -/
theorem reset_at (B : Fin 128) (i : Fin 16) (d : Fin 512) :
    (val_main_v66 (F := Ideal) x0 x1 x2 x3 x4 x5 x6 x7 x8 (ix3 B i d) : EReal) =
      Ideal.logistic ((val_main_v49 (F := Ideal) x0 x1 x2 x3 x4 x5 x7 (ix3 B i (g0 d)) : EReal) +
        val_main_v53 (F := Ideal) x1 x6 x8 (ix3 B i (g0 d))) := by
  unfold val_main_v66 val_main_v64 val_main_v62 val_main_v61 val_main_v60 val_main_v54 val_main_v57
  generalize val_main_v49 (F := Ideal) x0 x1 x2 x3 x4 x5 x7 = y
  generalize val_main_v53 (F := Ideal) x1 x6 x8 = z
  pointwise [val_main_v65, val_main_v63, val_main_cst_9, val_main_cst_10]
  exact sigmoid _

/-- The update gate. -/
theorem update_at (B : Fin 128) (i : Fin 16) (d : Fin 512) :
    (val_main_v73 (F := Ideal) x0 x1 x2 x3 x4 x5 x6 x7 x8 (ix3 B i d) : EReal) =
      Ideal.logistic ((val_main_v49 (F := Ideal) x0 x1 x2 x3 x4 x5 x7 (ix3 B i (g1 d)) : EReal) +
        val_main_v53 (F := Ideal) x1 x6 x8 (ix3 B i (g1 d))) := by
  unfold val_main_v73 val_main_v71 val_main_v69 val_main_v68 val_main_v67 val_main_v55 val_main_v58
  generalize val_main_v49 (F := Ideal) x0 x1 x2 x3 x4 x5 x7 = y
  generalize val_main_v53 (F := Ideal) x1 x6 x8 = z
  pointwise [val_main_v72, val_main_v70, val_main_cst_11, val_main_cst_12]
  exact sigmoid _

/-- The candidate. -/
theorem candidate_at (B : Fin 128) (i : Fin 16) (d : Fin 512) :
    (val_main_v76 (F := Ideal) x0 x1 x2 x3 x4 x5 x6 x7 x8 (ix3 B i d) : EReal) =
      Ideal.tanh ((val_main_v49 (F := Ideal) x0 x1 x2 x3 x4 x5 x7 (ix3 B i (g2 d)) : EReal) +
        (val_main_v66 (F := Ideal) x0 x1 x2 x3 x4 x5 x6 x7 x8 (ix3 B i d) : EReal) *
          val_main_v53 (F := Ideal) x1 x6 x8 (ix3 B i (g2 d))) := by
  unfold val_main_v76 val_main_v75 val_main_v74 val_main_v56 val_main_v59
  generalize val_main_v49 (F := Ideal) x0 x1 x2 x3 x4 x5 x7 = y
  generalize val_main_v53 (F := Ideal) x1 x6 x8 = z
  generalize val_main_v66 (F := Ideal) x0 x1 x2 x3 x4 x5 x6 x7 x8 = r
  pointwise
  rfl

/-- The state after a full update. -/
theorem next_at (B : Fin 128) (i : Fin 16) (d : Fin 512) :
    (val_main_v81 (F := Ideal) x0 x1 x2 x3 x4 x5 x6 x7 x8 (ix3 B i d) : EReal) =
      next (gatesR (ys x0 x1 x2 x3 B i) (us x0 x1 x2 x3 B i) (xs x0 B) (ws x4) (ws x5) (fun e => x7 (ix1 e)))
        (gatesH (hs x1 B i) (ws x6) (fun e => x8 (ix1 e))) (hs x1 B i d) d := by
  have h1 := update_at x0 x1 x2 x3 x4 x5 x6 x7 x8 B i d
  have h2 := candidate_at x0 x1 x2 x3 x4 x5 x6 x7 x8 B i d
  rw [reset_at, gates_x, gates_x, gates_h, gates_h] at h2
  rw [gates_x, gates_h] at h1
  unfold val_main_v81 val_main_v80 val_main_v79 val_main_v78
  revert h1 h2
  generalize val_main_v76 (F := Ideal) x0 x1 x2 x3 x4 x5 x6 x7 x8 = y
  generalize val_main_v73 (F := Ideal) x0 x1 x2 x3 x4 x5 x6 x7 x8 = z
  intro h1 h2
  pointwise [val_main_v77, val_main_cst_13]
  rw [h1, h2]
  rfl

/-- The reference's result. -/
theorem result_at (B : Fin 128) (i : Fin 16) (d : Fin 512) :
    (val_main_v89 (F := Ideal) x0 x1 x2 x3 x4 x5 x6 x7 x8 (ix3 B i d) : EReal) =
      rout (xs x0 B) (hs x1 B) (ws x2) (ws x3) (ws x4) (ws x5) (ws x6) (fun e => x7 (ix1 e)) (fun e => x8 (ix1 e)) i d := by
  have h1 := next_at x0 x1 x2 x3 x4 x5 x6 x7 x8 B i d
  have h2 : (val_main_v41 (F := Ideal) x0 x1 x2 x3 (ix2 B i) : EReal) = us x0 x1 x2 x3 B i := mask_at x0 x1 x2 x3 B i
  unfold val_main_v89 val_main_v88 val_main_v87 val_main_v86 val_main_v84 val_main_v83 val_main_v82
  revert h1 h2
  generalize val_main_v81 (F := Ideal) x0 x1 x2 x3 x4 x5 x6 x7 x8 = y
  generalize val_main_v41 (F := Ideal) x0 x1 x2 x3 = z
  intro h1 h2
  pointwise [val_main_v85, val_main_cst_14]
  rw [h1, h2]
  rfl

end Cert.RefValue
-- ==== Proof.Finite.lean ====
module

public import proofs.«01_k».proof.Proof.RefValue

@[expose] public section

/-! # The two results agree on real numbers

With finite observations, states and attention weights every score is a real number. Then no denominator vanishes, the
value weights may be applied before or after the average, and the two ways to write the update agree. -/

noncomputable section

namespace Cert.Finite

open Idealize.ShloMosaic Cert.Spec Cert.RefValue Cert.Rank

/-- Being a real number. -/
def IsReal (a : EReal) : Prop := ∃ r : ℝ, a = r

theorem real_of_ne {a : EReal} (h1 : a ≠ ⊤) (h2 : a ≠ ⊥) : IsReal a := ⟨a.toReal, (EReal.coe_toReal h1 h2).symm⟩

theorem IsReal.ne_top {a : EReal} (h : IsReal a) : a ≠ ⊤ := by obtain ⟨r, rfl⟩ := h; exact EReal.coe_ne_top r

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- A sum of reals is the sum in the reals. -/
theorem sum_coe {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem IsReal.sum {ι : Type} {S : Finset ι} {f : ι → EReal} (h : ∀ i, IsReal (f i)) : IsReal (∑ i ∈ S, f i) := by
  choose g hg using h
  exact ⟨∑ i ∈ S, g i, by simp only [hg, sum_coe]⟩

/-- Products of real tables are real. -/
theorem real_proj {ι : Type} {m n : ℕ} {x : ι → Fin m → EReal} {W : Fin m → Fin n → EReal} (hx : ∀ i c, IsReal (x i c))
    (hW : ∀ c d, IsReal (W c d)) (i : ι) (d : Fin n) : IsReal (proj x W i d) :=
  IsReal.sum fun c => (hx i c).mul (hW c d)

section
variable {x : Fin 32 → Fin 512 → EReal} {h : Fin 16 → Fin 512 → EReal} {Wq Wk Wv : Fin 512 → Fin 512 → EReal}
  (Wx Wh : Fin 512 → Fin 1536 → EReal) (bx bh : Fin 1536 → EReal)

/-- Scores of real tables are real. -/
theorem real_score (hx : ∀ s c, IsReal (x s c)) (hh : ∀ i c, IsReal (h i c)) (hq : ∀ c d, IsReal (Wq c d))
    (hk : ∀ c d, IsReal (Wk c d)) (i : Fin 16) (s : Fin 32) : IsReal (score x h Wq Wk i s) :=
  (IsReal.sum fun d => (real_proj hh hq i d).mul (real_proj hx hk s d)).mul ⟨_, rfl⟩

variable {y : Fin 32 → EReal}

/-- The largest of real scores is real. -/
theorem real_top (hy : ∀ s, IsReal (y s)) : IsReal (top y) := by
  refine real_of_ne (ne_of_lt (max_lt ?_ (by simp))) (ne_of_gt (lt_of_lt_of_le (by simp) (le_max_right _ (0 : EReal))))
  rw [Finset.fold_max_lt]
  exact ⟨bot_lt_top, fun s _ => (hy s).ne_top.lt_top⟩

/-- The exponential of a real number is a positive real number. -/
theorem exp_pos {a : EReal} (ha : IsReal a) : ∃ r : ℝ, 0 < r ∧ Ideal.exp a = r := by
  obtain ⟨r, rfl⟩ := ha
  exact ⟨Real.exp r, Real.exp_pos r, Ideal.exp_coe ..⟩

/-- The denominator of real scores is a positive real number. -/
theorem den_pos (hy : ∀ s, IsReal (y s)) : ∃ r : ℝ, 0 < r ∧ den y = r := by
  have ht := real_top hy
  choose g hg0 hg using fun s => exp_pos ((hy s).sub ht)
  obtain ⟨u, hu0, hu⟩ := exp_pos (IsReal.sub ⟨0, rfl⟩ ht)
  refine ⟨(∑ s, g s) + u, add_pos_of_nonneg_of_pos (Finset.sum_nonneg fun s _ => (hg0 s).le) hu0, ?_⟩
  unfold den
  simp only [hg, sum_coe]
  rw [EReal.coe_add, ← hu]
  rfl

/-- The denominator of real scores is not 0. -/
theorem den_ne (hy : ∀ s, IsReal (y s)) : den y ≠ 0 := by
  obtain ⟨r, h0, hr⟩ := den_pos hy
  rw [hr]
  exact_mod_cast h0.ne'

/-- The weights of real scores are real. -/
theorem real_wgt (hy : ∀ s, IsReal (y s)) (s : Fin 32) : IsReal (wgt y s) := by
  obtain ⟨r, h0, hr⟩ := den_pos hy
  obtain ⟨e, _, he⟩ := exp_pos ((hy s).sub (real_top hy))
  unfold wgt
  rw [hr, he, Ideal.div_coe h0.ne']
  exact IsReal.mul ⟨_, rfl⟩ ⟨_, rfl⟩

/-- Averaging and then applying the value weights is applying them and then averaging. -/
theorem average (hy : ∀ s, IsReal (y s)) (hx : ∀ s c, IsReal (x s c)) (hv : ∀ c d, IsReal (Wv c d)) (d : Fin 512) :
    ∑ c, (∑ s, wgt y s * x s c) * Wv c d = ∑ s, wgt y s * proj x Wv s d := by
  choose w hw using real_wgt hy
  choose x' hx' using hx
  choose v hv' using hv
  unfold proj
  simp only [hw, hx', hv', ← EReal.coe_mul, sum_coe]
  congr 1
  simp only [Finset.sum_mul, Finset.mul_sum]
  rw [Finset.sum_comm]
  simp only [mul_assoc]

/-- The gates of an active slot. -/
theorem gates_eq (hy : ∀ s, IsReal (y s)) (hx : ∀ s c, IsReal (x s c)) (hv : ∀ c d, IsReal (Wv c d)) :
    gatesR y 1 x Wv Wx bx = gatesX y x Wv Wx bx := by
  funext e
  unfold gatesR gatesX
  simp only [average hy hx hv, mul_one]

end

/-- The sigmoid is always a real number. -/
theorem real_logistic (a : EReal) : IsReal (Ideal.logistic a) := by
  induction a with
  | bot => exact ⟨0, Ideal.logistic_bot⟩
  | coe r => exact ⟨_, Ideal.logistic_coe ..⟩
  | top => exact ⟨1, Ideal.logistic_top⟩

/-- The hyperbolic tangent is always a real number. -/
theorem real_tanh (a : EReal) : IsReal (Ideal.tanh a) := by
  induction a with
  | bot => exact ⟨-1, Ideal.tanh_bot⟩
  | coe r => exact ⟨_, Ideal.tanh_coe ..⟩
  | top => exact ⟨1, Ideal.tanh_top⟩

/-- The state plus its change is the state after a full update. -/
theorem change_eq (gx gh : Fin 1536 → EReal) {h : EReal} (hh : IsReal h) (d : Fin 512) :
    h + change gx gh h d = next gx gh h d := by
  unfold change next
  obtain ⟨z, hz⟩ := real_logistic (gx (g1 d) + gh (g1 d))
  obtain ⟨n, hn⟩ := real_tanh (gx (g2 d) + Ideal.logistic (gx (g0 d) + gh (g0 d)) * gh (g2 d))
  obtain ⟨r, rfl⟩ := hh
  rw [hz, hn]
  have : r + (1 - z) * (n - r) = (1 - z) * n + z * r := by ring
  exact_mod_cast congrArg (fun v : ℝ => (v : EReal)) this

/-- On finite observations, states and attention weights the kernel's result is the reference's. -/
theorem kout_eq {x : Fin 32 → Fin 512 → EReal} {h : Fin 16 → Fin 512 → EReal} {Wq Wk Wv : Fin 512 → Fin 512 → EReal}
    (Wx Wh : Fin 512 → Fin 1536 → EReal) (bx bh : Fin 1536 → EReal) (hx : ∀ s c, IsReal (x s c))
    (hh : ∀ i c, IsReal (h i c)) (hq : ∀ c d, IsReal (Wq c d)) (hk : ∀ c d, IsReal (Wk c d)) (hv : ∀ c d, IsReal (Wv c d))
    (i : Fin 16) (d : Fin 512) : kout x h Wq Wk Wv Wx Wh bx bh i d = rout x h Wq Wk Wv Wx Wh bx bh i d := by
  have hy := real_score hx hh hq hk i
  have h1 : (1 : EReal) - 1 = 0 := by
    rw [← EReal.coe_one, ← EReal.coe_sub, sub_self, EReal.coe_zero]
  unfold kout rout mask
  by_cases hr : rank (fun j => nul (score x h Wq Wk j)) i < 8
  · simp only [if_pos hr]
    rw [gates_eq Wx bx hy hx hv, change_eq _ _ (hh i d), one_mul, h1, zero_mul, add_zero]
  · simp only [if_neg hr]
    rw [zero_mul, sub_zero, one_mul, zero_add]

end Cert.Finite
-- ==== Proof.Entries.lean ====
module

public import proofs.«01_k».proof.Proof.Finite
public import proofs.«01_k».proof.Proof.Gen.Pre_finite
public import Idealize.ShloMosaic.Lib.ReduceAll
public import Idealize.ShloMosaic.Lib.Pointwise

@[expose] public section

/-! # The precondition, entry by entry

The precondition says of five arrays that every magnitude is below `+∞`: every entry is then a real number. -/

noncomputable section

namespace Cert.Entries

open Idealize.ShloMosaic Cert.Finite

/-- A number whose magnitude is below `⊤` is real. -/
theorem real_of_abs {a : EReal} (h : max a (-a) < ⊤) : IsReal a := by
  rw [max_lt_iff] at h
  refine real_of_ne h.1.ne fun e => ?_
  rw [e] at h
  simp at h

/-- The pattern of `+∞` is `⊤`. -/
theorem inf_eq : (Ideal.ofBits .f32 0x7F800000#32 : EReal) = ⊤ := by
  simp [Ideal.ofBits, Ideal.ieee]

/-- The comparison of one entry's magnitude with `+∞`. -/
theorem real_of_cmp {s : Shape} (a : FVec Ideal s .f32) (h : Cert.Pre_finite.S_.BroadcastsInDim s (![] : Fin 0 → Fin s.rank))
    (i : s.Idx)
    (e : cmpf .olt (Host.absf a) (broadcastInDim s ![] h (constant (F := Ideal) Cert.Pre_finite.S_ .f32 0x7F800000#32)) i = 1#1) :
    IsReal (a i) := by
  refine real_of_abs ?_
  have e' : BitVec.ofBool (decide (max (a i : EReal) (-(a i)) < Ideal.ofBits .f32 0x7F800000#32)) = 1#1 := e
  rw [inf_eq] at e'
  by_contra hn
  rw [decide_eq_false hn] at e'
  exact absurd e' (by decide)

/-- Under the precondition the entries of the first five arguments are real. -/
theorem entries (a0 : FVec Ideal Cert.Pre_finite.S128x32x512 .f32) (a1 : FVec Ideal Cert.Pre_finite.S128x16x512 .f32)
    (a2 a3 a4 : FVec Ideal Cert.Pre_finite.S512x512 .f32) (a5 a6 : FVec Ideal Cert.Pre_finite.S512x1536 .f32)
    (a7 a8 : FVec Ideal Cert.Pre_finite.S1536 .f32) (j : Cert.Pre_finite.S_.Idx)
    (e : Cert.Pre_finite.fn (F := Ideal) a0 a1 a2 a3 a4 a5 a6 a7 a8 j = 1#1) :
    (∀ i, IsReal (a0 i)) ∧ (∀ i, IsReal (a1 i)) ∧ (∀ i, IsReal (a2 i)) ∧ (∀ i, IsReal (a3 i)) ∧ ∀ i, IsReal (a4 i) := by
  unfold Cert.Pre_finite.fn Cert.Pre_finite.fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have : Subsingleton Cert.Pre_finite.S_.Idx := ⟨fun _ _ => funext fun k => k.elim0⟩
  exact ⟨fun i => real_of_cmp a0 _ i (Host.reduce_andi_all _ _ _ _ j e0 i),
    fun i => real_of_cmp a1 _ i (Host.reduce_andi_all _ _ _ _ j e1 i),
    fun i => real_of_cmp a2 _ i (Host.reduce_andi_all _ _ _ _ j e2 i),
    fun i => real_of_cmp a3 _ i (Host.reduce_andi_all _ _ _ _ j e3 i),
    fun i => real_of_cmp a4 _ i (Host.reduce_andi_all _ _ _ _ j e4 i)⟩

end Cert.Entries
-- ==== Proof.Agree.lean ====
module

public import proofs.«01_k».proof.Proof.KernelValue
public import proofs.«01_k».proof.Proof.Entries
public import proofs.«01_k».proof.Proof.Gen.ReferenceIdeal.Run

@[expose] public section

/-! # The reference's result array is the kernel's

Both arrays as functions of nine argument arrays, the first five of them finite. -/

noncomputable section

namespace Cert.Agree

open Idealize.ShloMosaic Cert.Finite Cert.RefScores

section
variable (x0 : FVec Ideal Cert.Pre_finite.S128x32x512 .f32) (x1 : FVec Ideal Cert.Pre_finite.S128x16x512 .f32)
  (x2 x3 x4 : FVec Ideal Cert.Pre_finite.S512x512 .f32) (x5 x6 : FVec Ideal Cert.Pre_finite.S512x1536 .f32)
  (x7 x8 : FVec Ideal Cert.Pre_finite.S1536 .f32)

/-- Under the precondition no softmax denominator of the kernel is 0. -/
theorem den_ne (e : Cert.Pre_finite.fn (F := Ideal) x0 x1 x2 x3 x4 x5 x6 x7 x8 = fun _ => 1#1) (B : Fin 128) (i : Fin 16) :
    Cert.Spec.den (Cert.KernelValue.scoreOf x0 x1 x2 x3 B i) ≠ 0 := by
  obtain ⟨h0, h1, h2, h3, _⟩ := Cert.Entries.entries x0 x1 x2 x3 x4 x5 x6 x7 x8 (fun k => k.elim0) (congrFun e _)
  exact Cert.Finite.den_ne (real_score (fun s c => h0 _) (fun i c => h1 _) (fun c d => h2 _) (fun c d => h3 _) i)

/-- Under the precondition the reference's result is the kernel's. -/
theorem agree (e : Cert.Pre_finite.fn (F := Ideal) x0 x1 x2 x3 x4 x5 x6 x7 x8 = fun _ => 1#1) :
    Cert.ReferenceIdeal.Read.val_main_v89 (F := Ideal) x0 x1 x2 x3 x4 x5 x6 x7 x8
      = Cert.KernelValue.result x0 x1 x2 x3 x4 x5 x6 x7 x8 := by
  obtain ⟨h0, h1, h2, h3, h4⟩ := Cert.Entries.entries x0 x1 x2 x3 x4 x5 x6 x7 x8 (fun k => k.elim0) (congrFun e _)
  funext j
  refine ((congrArg _ (ix3_eta j).symm).trans (Cert.RefValue.result_at x0 x1 x2 x3 x4 x5 x6 x7 x8 (j 0) (j 1) (j 2))).trans ?_
  exact (kout_eq (ws x5) (ws x6) (fun e => x7 (ix1 e)) (fun e => x8 (ix1 e)) (fun s c => h0 _) (fun i c => h1 _)
    (fun c d => h2 _) (fun c d => h3 _) (fun c d => h4 _) (j 1) (j 2)).symm

end

end Cert.Agree
-- ==== Proof.lean ====
/- The proof of the certificate's claims: the three frames, the named constants, and the equality of the kernel
   with the reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs, leaves its arguments unchanged and every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants: `1/√512` for the scale of the scores, `-∞` for the masked scores. -/
theorem preserves : Cert.preserves_Kernel_KernelIdeal :=
  ⟨IdealRules.named_const.statement Cert.KernelIdeal.κ "inv_sqrt_dk" .f32 0x3D3504F3#32 (((Real.sqrt 512)⁻¹ : ℝ) : EReal) rfl,
    IdealRules.named_const.statement Cert.KernelIdeal.κ "mask" .f32 0xF149F2CA#32 ⊥ rfl⟩

/-- On finite observations, states and attention weights the kernel and the reference end in the same result array. -/
theorem algebraic : Cert.algebraic_KernelIdeal_ReferenceIdeal_pre_finite := by
  intro m g m' g' hp ha
  refine ⟨fun c => Cert.KernelValue.result _ _ _ _ _ _ _ _ _,
    (θ_run Cert.KernelIdeal.defs _ _).mono (fun r h c => ⟨(h c).1.trans (Cert.KernelValue.final m c fun B i => ?_), (h c).2⟩)
      (Cert.KernelIdeal.Value.run_blocks (F := Ideal) m g),
    (θ_run Cert.ReferenceIdeal.defs _ _).mono (fun r h c => ⟨(h c).1.trans ?_, (h c).2⟩)
      (Cert.ReferenceIdeal.Value.run (F := Ideal) m' g')⟩
  · exact Cert.Agree.den_ne _ _ _ _ _ _ _ _ _ (hp c) B i
  · obtain ⟨a0, a1, a2, a3, a4, a5, a6, a7, a8⟩ := ha c
    rw [Cert.ReferenceIdeal.Read.val_main_v89_eq, a0, a1, a2, a3, a4, a5, a6, a7, a8]
    exact Cert.Agree.agree _ _ _ _ _ _ _ _ _ (hp c)

/-- Every claim of the certificate. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, preserves, algebraic⟩

end Cert.Proof

end
